-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![16, 128, 512]⟩ ⟨3, ![64, 128, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![2048, 512]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x512 : Shape := ⟨3, ![16, 128, 512]⟩
abbrev S1x512 : Shape := ⟨2, ![1, 512]⟩
abbrev S512x512 : Shape := ⟨2, ![512, 512]⟩
abbrev S3x2x64x512 : Shape := ⟨4, ![3, 2, 64, 512]⟩
abbrev S2x64x512 : Shape := ⟨3, ![2, 64, 512]⟩
abbrev S3x2 : Shape := ⟨2, ![3, 2]⟩
abbrev S3 : Shape := ⟨1, ![3]⟩
abbrev S_ : Shape := ⟨0, ![]⟩
abbrev S1 : Shape := ⟨1, ![1]⟩
abbrev S1x128x512 : Shape := ⟨3, ![1, 128, 512]⟩
abbrev S128x512 : Shape := ⟨2, ![128, 512]⟩
abbrev S1x2x64x512 : Shape := ⟨4, ![1, 2, 64, 512]⟩
abbrev S1x1 : Shape := ⟨2, ![1, 1]⟩
abbrev S1x1x64x512 : Shape := ⟨4, ![1, 1, 64, 512]⟩
abbrev S64x512 : Shape := ⟨2, ![64, 512]⟩
abbrev S64 : Shape := ⟨1, ![64]⟩
abbrev S64x1 : Shape := ⟨2, ![64, 1]⟩
abbrev S1x64x512 : Shape := ⟨3, ![1, 64, 512]⟩

abbrev nBuf : Space → Nat
  | .hbm => 3
  | .vmem => 7
  | .smem => 0
  | _ => 0

abbrev bufTy : (tb : Table) → Fin (tcTables nBuf tb) → BufTy
  | .hbm, ⟨0, _⟩ => ⟨S16x128x512, .bf16⟩
  | .hbm, ⟨1, _⟩ => ⟨S1x512, .bf16⟩
  | .hbm, ⟨2, _⟩ => ⟨S512x512, .f32⟩
  | .local _ .vmem, ⟨0, _⟩ => ⟨S16x128x512, .bf16⟩
  | .local _ .vmem, ⟨1, _⟩ => ⟨S1x512, .bf16⟩
  | .local _ .vmem, ⟨2, _⟩ => ⟨S512x512, .f32⟩
  | .local _ .vmem, ⟨3, _⟩ => ⟨S3x2x64x512, .bf16⟩
  | .local _ .vmem, ⟨4, _⟩ => ⟨S3x2x64x512, .bf16⟩
  | .local _ .vmem, ⟨5, _⟩ => ⟨S2x64x512, .bf16⟩
  | .local _ .vmem, ⟨6, _⟩ => ⟨S3x2x64x512, .bf16⟩
  | _, _ => ⟨S16x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => true
  | ⟨1, _⟩ => true
  | ⟨2, _⟩ => true
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 4 27 bufScoped semScoped dmaSemScoped tileCredit tileCredit_eq_zero tileCredit_pos).withBarriers [(0, 3)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 3

abbrev nD : Nat := 16
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v18 : BitVec 32 := Scalar.muli v2 c8_i32_8
  let v19 : BitVec 32 := Scalar.addi c0_i32_9 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v20 : BitVec 32 := Scalar.muli v5 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8_i32_3 : BitVec 32 := 8#32
  let v12 : BitVec 32 := Scalar.addi v8 c8_i32_3
  let c0_i32 : BitVec 32 := 0#32
  let v13 : BitVec 32 := Scalar.subi v12 c0_i32
  let c1_i32_4 : BitVec 32 := 1#32
  let v14 : BitVec 32 := Scalar.subi v13 c1_i32_4
  let c4_i32_5 : BitVec 32 := 4#32
  let v15 : BitVec 32 := Scalar.remsi v14 c4_i32_5
  let c1_i32_11 : BitVec 32 := 1#32
  let v22 : BitVec 32 := Scalar.muli v15 c1_i32_11
  let v23 : BitVec 32 := Scalar.addi v21 v22
  v23.toNat
def k0_dev2 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_12 : BitVec 32 := 0#32
  let v24 : BitVec 32 := Scalar.addi v10 c0_i32_12
  let c1_i32_13 : BitVec 32 := 1#32
  let v25 : BitVec 32 := Scalar.addi v24 c1_i32_13
  let c4_i32_14 : BitVec 32 := 4#32
  let v26 : BitVec 32 := Scalar.remsi v25 c4_i32_14
  let c0_i32_16 : BitVec 32 := 0#32
  let v28 : BitVec 1 := Scalar.cmpi .sgt v26 c0_i32_16
  let v29 : BitVec 32 := Scalar.extui v28
  let c0_i32_17 : BitVec 32 := 0#32
  let v30 : BitVec 1 := Scalar.cmpi .slt v26 c0_i32_17
  let v31 : BitVec 32 := Scalar.extui v30
  let v32 : BitVec 32 := Scalar.subi v29 v31
  let c2_i32_15 : BitVec 32 := 2#32
  let c0_i32_18 : BitVec 32 := 0#32
  let v33 : BitVec 1 := Scalar.cmpi .sgt c2_i32_15 c0_i32_18
  let v34 : BitVec 32 := Scalar.extui v33
  let c0_i32_19 : BitVec 32 := 0#32
  let v35 : BitVec 1 := Scalar.cmpi .slt c2_i32_15 c0_i32_19
  let v36 : BitVec 32 := Scalar.extui v35
  let v37 : BitVec 32 := Scalar.subi v34 v36
  let v38 : BitVec 1 := Scalar.cmpi .ne v32 v37
  let v39 : BitVec 32 := Scalar.remsi v26 c2_i32_15
  let c0_i32_20 : BitVec 32 := 0#32
  let v40 : BitVec 1 := Scalar.cmpi .ne v39 c0_i32_20
  let v41 : BitVec 1 := Scalar.andi v38 v40
  let v27 : BitVec 32 := Scalar.divsi v26 c2_i32_15
  let c1_i32_21 : BitVec 32 := 1#32
  let v42 : BitVec 32 := Scalar.subi v27 c1_i32_21
  let v43 : BitVec 32 := Scalar.select v41 v42 v27
  let c8_i32_24 : BitVec 32 := 8#32
  let v45 : BitVec 32 := Scalar.muli v43 c8_i32_24
  let v46 : BitVec 32 := Scalar.addi c0_i32_25 v45
  let c2_i32_22 : BitVec 32 := 2#32
  let v44 : BitVec 32 := Scalar.remsi v26 c2_i32_22
  let c4_i32_26 : BitVec 32 := 4#32
  let v47 : BitVec 32 := Scalar.muli v44 c4_i32_26
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v49 : BitVec 32 := Scalar.muli v8 c1_i32_27
  let v50 : BitVec 32 := Scalar.addi v48 v49
  v50.toNat
def k0_dev3 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v57 : BitVec 32 := Scalar.muli v2 c8_i32_34
  let v58 : BitVec 32 := Scalar.addi c0_i32_35 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v59 : BitVec 32 := Scalar.muli v5 c4_i32_36
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8_i32_28 : BitVec 32 := 8#32
  let v51 : BitVec 32 := Scalar.addi v8 c8_i32_28
  let c1_i32_29 : BitVec 32 := 1#32
  let v52 : BitVec 32 := Scalar.subi v51 c1_i32_29
  let c1_i32_30 : BitVec 32 := 1#32
  let v53 : BitVec 32 := Scalar.subi v52 c1_i32_30
  let c4_i32_31 : BitVec 32 := 4#32
  let v54 : BitVec 32 := Scalar.remsi v53 c4_i32_31
  let c1_i32_37 : BitVec 32 := 1#32
  let v61 : BitVec 32 := Scalar.muli v54 c1_i32_37
  let v62 : BitVec 32 := Scalar.addi v60 v61
  v62.toNat
def k0_dev4 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_38 : BitVec 32 := 1#32
  let v63 : BitVec 32 := Scalar.addi v10 c1_i32_38
  let c1_i32_39 : BitVec 32 := 1#32
  let v64 : BitVec 32 := Scalar.addi v63 c1_i32_39
  let c4_i32_40 : BitVec 32 := 4#32
  let v65 : BitVec 32 := Scalar.remsi v64 c4_i32_40
  let c0_i32_42 : BitVec 32 := 0#32
  let v67 : BitVec 1 := Scalar.cmpi .sgt v65 c0_i32_42
  let v68 : BitVec 32 := Scalar.extui v67
  let c0_i32_43 : BitVec 32 := 0#32
  let v69 : BitVec 1 := Scalar.cmpi .slt v65 c0_i32_43
  let v70 : BitVec 32 := Scalar.extui v69
  let v71 : BitVec 32 := Scalar.subi v68 v70
  let c2_i32_41 : BitVec 32 := 2#32
  let c0_i32_44 : BitVec 32 := 0#32
  let v72 : BitVec 1 := Scalar.cmpi .sgt c2_i32_41 c0_i32_44
  let v73 : BitVec 32 := Scalar.extui v72
  let c0_i32_45 : BitVec 32 := 0#32
  let v74 : BitVec 1 := Scalar.cmpi .slt c2_i32_41 c0_i32_45
  let v75 : BitVec 32 := Scalar.extui v74
  let v76 : BitVec 32 := Scalar.subi v73 v75
  let v77 : BitVec 1 := Scalar.cmpi .ne v71 v76
  let v78 : BitVec 32 := Scalar.remsi v65 c2_i32_41
  let c0_i32_46 : BitVec 32 := 0#32
  let v79 : BitVec 1 := Scalar.cmpi .ne v78 c0_i32_46
  let v80 : BitVec 1 := Scalar.andi v77 v79
  let v66 : BitVec 32 := Scalar.divsi v65 c2_i32_41
  let c1_i32_47 : BitVec 32 := 1#32
  let v81 : BitVec 32 := Scalar.subi v66 c1_i32_47
  let v82 : BitVec 32 := Scalar.select v80 v81 v66
  let c8_i32_50 : BitVec 32 := 8#32
  let v84 : BitVec 32 := Scalar.muli v82 c8_i32_50
  let v85 : BitVec 32 := Scalar.addi c0_i32_51 v84
  let c2_i32_48 : BitVec 32 := 2#32
  let v83 : BitVec 32 := Scalar.remsi v65 c2_i32_48
  let c4_i32_52 : BitVec 32 := 4#32
  let v86 : BitVec 32 := Scalar.muli v83 c4_i32_52
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_53 : BitVec 32 := 1#32
  let v88 : BitVec 32 := Scalar.muli v8 c1_i32_53
  let v89 : BitVec 32 := Scalar.addi v87 v88
  v89.toNat
def k0_dev5 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v96 : BitVec 32 := Scalar.muli v2 c8_i32_60
  let v97 : BitVec 32 := Scalar.addi c0_i32_61 v96
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v98 : BitVec 32 := Scalar.muli v5 c4_i32_62
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8_i32_54 : BitVec 32 := 8#32
  let v90 : BitVec 32 := Scalar.addi v8 c8_i32_54
  let c2_i32_55 : BitVec 32 := 2#32
  let v91 : BitVec 32 := Scalar.subi v90 c2_i32_55
  let c1_i32_56 : BitVec 32 := 1#32
  let v92 : BitVec 32 := Scalar.subi v91 c1_i32_56
  let c4_i32_57 : BitVec 32 := 4#32
  let v93 : BitVec 32 := Scalar.remsi v92 c4_i32_57
  let c1_i32_63 : BitVec 32 := 1#32
  let v100 : BitVec 32 := Scalar.muli v93 c1_i32_63
  let v101 : BitVec 32 := Scalar.addi v99 v100
  v101.toNat
def k0_dev6 (d0 : Dev nD) : Nat :=
  let c0_i32_77 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_64 : BitVec 32 := 2#32
  let v102 : BitVec 32 := Scalar.addi v10 c2_i32_64
  let c1_i32_65 : BitVec 32 := 1#32
  let v103 : BitVec 32 := Scalar.addi v102 c1_i32_65
  let c4_i32_66 : BitVec 32 := 4#32
  let v104 : BitVec 32 := Scalar.remsi v103 c4_i32_66
  let c0_i32_68 : BitVec 32 := 0#32
  let v106 : BitVec 1 := Scalar.cmpi .sgt v104 c0_i32_68
  let v107 : BitVec 32 := Scalar.extui v106
  let c0_i32_69 : BitVec 32 := 0#32
  let v108 : BitVec 1 := Scalar.cmpi .slt v104 c0_i32_69
  let v109 : BitVec 32 := Scalar.extui v108
  let v110 : BitVec 32 := Scalar.subi v107 v109
  let c2_i32_67 : BitVec 32 := 2#32
  let c0_i32_70 : BitVec 32 := 0#32
  let v111 : BitVec 1 := Scalar.cmpi .sgt c2_i32_67 c0_i32_70
  let v112 : BitVec 32 := Scalar.extui v111
  let c0_i32_71 : BitVec 32 := 0#32
  let v113 : BitVec 1 := Scalar.cmpi .slt c2_i32_67 c0_i32_71
  let v114 : BitVec 32 := Scalar.extui v113
  let v115 : BitVec 32 := Scalar.subi v112 v114
  let v116 : BitVec 1 := Scalar.cmpi .ne v110 v115
  let v117 : BitVec 32 := Scalar.remsi v104 c2_i32_67
  let c0_i32_72 : BitVec 32 := 0#32
  let v118 : BitVec 1 := Scalar.cmpi .ne v117 c0_i32_72
  let v119 : BitVec 1 := Scalar.andi v116 v118
  let v105 : BitVec 32 := Scalar.divsi v104 c2_i32_67
  let c1_i32_73 : BitVec 32 := 1#32
  let v120 : BitVec 32 := Scalar.subi v105 c1_i32_73
  let v121 : BitVec 32 := Scalar.select v119 v120 v105
  let c8_i32_76 : BitVec 32 := 8#32
  let v123 : BitVec 32 := Scalar.muli v121 c8_i32_76
  let v124 : BitVec 32 := Scalar.addi c0_i32_77 v123
  let c2_i32_74 : BitVec 32 := 2#32
  let v122 : BitVec 32 := Scalar.remsi v104 c2_i32_74
  let c4_i32_78 : BitVec 32 := 4#32
  let v125 : BitVec 32 := Scalar.muli v122 c4_i32_78
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v127 : BitVec 32 := Scalar.muli v8 c1_i32_79
  let v128 : BitVec 32 := Scalar.addi v126 v127
  v128.toNat
def k0_off1 (d0 : Dev nD) (c0_i32_80 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v129 : BitVec 32 := Scalar.addi v8 c0_i32_80
  let c1_i32_81 : BitVec 32 := 1#32
  let v130 : BitVec 32 := Scalar.addi v129 c1_i32_81
  let c4_i32_82 : BitVec 32 := 4#32
  let v131 : BitVec 32 := Scalar.remsi v130 c4_i32_82
  let c4_i32_83 : BitVec 32 := 4#32
  let v132 : BitVec 32 := Scalar.muli v131 c4_i32_83
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v133 : BitVec 32 := Scalar.addi v132 v10
  let v134 : Index := Scalar.indexCast v133
  let c0 : Index := 0#32
  let c0_84 : Index := 0#32
  ![v134.toNat, 0, 0]
def k0_dev7 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v170 : BitVec 32 := Scalar.muli v2 c8_i32_120
  let v171 : BitVec 32 := Scalar.addi c0_i32_121 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v172 : BitVec 32 := Scalar.muli v5 c4_i32_122
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_109 : BitVec 32 := 0#32
  let v167 : BitVec 32 := Scalar.addi v8 c0_i32_109
  let c1_i32_110 : BitVec 32 := 1#32
  let v168 : BitVec 32 := Scalar.addi v167 c1_i32_110
  let c4_i32_111 : BitVec 32 := 4#32
  let v169 : BitVec 32 := Scalar.remsi v168 c4_i32_111
  let c1_i32_123 : BitVec 32 := 1#32
  let v174 : BitVec 32 := Scalar.muli v169 c1_i32_123
  let v175 : BitVec 32 := Scalar.addi v173 v174
  v175.toNat
def k0_dev8 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v184 : BitVec 32 := Scalar.muli v2 c8_i32_136
  let v185 : BitVec 32 := Scalar.addi c0_i32_137 v184
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v186 : BitVec 32 := Scalar.muli v5 c4_i32_138
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_109 : BitVec 32 := 0#32
  let v167 : BitVec 32 := Scalar.addi v8 c0_i32_109
  let c1_i32_110 : BitVec 32 := 1#32
  let v168 : BitVec 32 := Scalar.addi v167 c1_i32_110
  let c4_i32_111 : BitVec 32 := 4#32
  let v169 : BitVec 32 := Scalar.remsi v168 c4_i32_111
  let c1_i32_139 : BitVec 32 := 1#32
  let v188 : BitVec 32 := Scalar.muli v169 c1_i32_139
  let v189 : BitVec 32 := Scalar.addi v187 v188
  v189.toNat
def k0_dev9 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v203 : BitVec 32 := Scalar.muli v2 c8_i32_158
  let v204 : BitVec 32 := Scalar.addi c0_i32_159 v203
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_160 : BitVec 32 := 4#32
  let v205 : BitVec 32 := Scalar.muli v5 c4_i32_160
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v200 : BitVec 32 := Scalar.addi v8 c1_i32_147
  let c1_i32_148 : BitVec 32 := 1#32
  let v201 : BitVec 32 := Scalar.addi v200 c1_i32_148
  let c4_i32_149 : BitVec 32 := 4#32
  let v202 : BitVec 32 := Scalar.remsi v201 c4_i32_149
  let c1_i32_161 : BitVec 32 := 1#32
  let v207 : BitVec 32 := Scalar.muli v202 c1_i32_161
  let v208 : BitVec 32 := Scalar.addi v206 v207
  v208.toNat
def k0_dev10 (d0 : Dev nD) : Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_174 : BitVec 32 := 8#32
  let v217 : BitVec 32 := Scalar.muli v2 c8_i32_174
  let v218 : BitVec 32 := Scalar.addi c0_i32_175 v217
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_176 : BitVec 32 := 4#32
  let v219 : BitVec 32 := Scalar.muli v5 c4_i32_176
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v200 : BitVec 32 := Scalar.addi v8 c1_i32_147
  let c1_i32_148 : BitVec 32 := 1#32
  let v201 : BitVec 32 := Scalar.addi v200 c1_i32_148
  let c4_i32_149 : BitVec 32 := 4#32
  let v202 : BitVec 32 := Scalar.remsi v201 c4_i32_149
  let c1_i32_177 : BitVec 32 := 1#32
  let v221 : BitVec 32 := Scalar.muli v202 c1_i32_177
  let v222 : BitVec 32 := Scalar.addi v220 v221
  v222.toNat
def k0_dev11 (d0 : Dev nD) : Nat :=
  let c0_i32_197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_196 : BitVec 32 := 8#32
  let v236 : BitVec 32 := Scalar.muli v2 c8_i32_196
  let v237 : BitVec 32 := Scalar.addi c0_i32_197 v236
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v238 : BitVec 32 := Scalar.muli v5 c4_i32_198
  let v239 : BitVec 32 := Scalar.addi v237 v238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_185 : BitVec 32 := 2#32
  let v233 : BitVec 32 := Scalar.addi v8 c2_i32_185
  let c1_i32_186 : BitVec 32 := 1#32
  let v234 : BitVec 32 := Scalar.addi v233 c1_i32_186
  let c4_i32_187 : BitVec 32 := 4#32
  let v235 : BitVec 32 := Scalar.remsi v234 c4_i32_187
  let c1_i32_199 : BitVec 32 := 1#32
  let v240 : BitVec 32 := Scalar.muli v235 c1_i32_199
  let v241 : BitVec 32 := Scalar.addi v239 v240
  v241.toNat
def k0_dev12 (d0 : Dev nD) : Nat :=
  let c0_i32_213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_212 : BitVec 32 := 8#32
  let v250 : BitVec 32 := Scalar.muli v2 c8_i32_212
  let v251 : BitVec 32 := Scalar.addi c0_i32_213 v250
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_214 : BitVec 32 := 4#32
  let v252 : BitVec 32 := Scalar.muli v5 c4_i32_214
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_185 : BitVec 32 := 2#32
  let v233 : BitVec 32 := Scalar.addi v8 c2_i32_185
  let c1_i32_186 : BitVec 32 := 1#32
  let v234 : BitVec 32 := Scalar.addi v233 c1_i32_186
  let c4_i32_187 : BitVec 32 := 4#32
  let v235 : BitVec 32 := Scalar.remsi v234 c4_i32_187
  let c1_i32_215 : BitVec 32 := 1#32
  let v254 : BitVec 32 := Scalar.muli v235 c1_i32_215
  let v255 : BitVec 32 := Scalar.addi v253 v254
  v255.toNat
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_220 : BitVec 32 := 4#32
  let v264 : BitVec 32 := Scalar.muli v8 c4_i32_220
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v265 : BitVec 32 := Scalar.addi v264 v10
  let v266 : Index := Scalar.indexCast v265
  let c0_221 : Index := 0#32
  let c0_222 : Index := 0#32
  ![v266.toNat, 0, 0]
def k0_off3 (d0 : Dev nD) (c0_i32_287 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v334 : BitVec 32 := Scalar.muli v10 c128_i32
  let v335 : BitVec 32 := Scalar.addi v334 c0_i32_287
  let v336 : Index := Scalar.indexCast v335
  let c0_288 : Index := 0#32
  ![v336.toNat, 0]
def k0_dev13 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_293 : BitVec 32 := 1#32
  let v342 : BitVec 32 := Scalar.addi v10 c1_i32_293
  let c1_i32_294 : BitVec 32 := 1#32
  let v343 : BitVec 32 := Scalar.addi v342 c1_i32_294
  let c4_i32_295 : BitVec 32 := 4#32
  let v344 : BitVec 32 := Scalar.remsi v343 c4_i32_295
  let c0_i32_297 : BitVec 32 := 0#32
  let v346 : BitVec 1 := Scalar.cmpi .sgt v344 c0_i32_297
  let v347 : BitVec 32 := Scalar.extui v346
  let c0_i32_298 : BitVec 32 := 0#32
  let v348 : BitVec 1 := Scalar.cmpi .slt v344 c0_i32_298
  let v349 : BitVec 32 := Scalar.extui v348
  let v350 : BitVec 32 := Scalar.subi v347 v349
  let c2_i32_296 : BitVec 32 := 2#32
  let c0_i32_299 : BitVec 32 := 0#32
  let v351 : BitVec 1 := Scalar.cmpi .sgt c2_i32_296 c0_i32_299
  let v352 : BitVec 32 := Scalar.extui v351
  let c0_i32_300 : BitVec 32 := 0#32
  let v353 : BitVec 1 := Scalar.cmpi .slt c2_i32_296 c0_i32_300
  let v354 : BitVec 32 := Scalar.extui v353
  let v355 : BitVec 32 := Scalar.subi v352 v354
  let v356 : BitVec 1 := Scalar.cmpi .ne v350 v355
  let v357 : BitVec 32 := Scalar.remsi v344 c2_i32_296
  let c0_i32_301 : BitVec 32 := 0#32
  let v358 : BitVec 1 := Scalar.cmpi .ne v357 c0_i32_301
  let v359 : BitVec 1 := Scalar.andi v356 v358
  let v345 : BitVec 32 := Scalar.divsi v344 c2_i32_296
  let c1_i32_302 : BitVec 32 := 1#32
  let v360 : BitVec 32 := Scalar.subi v345 c1_i32_302
  let v361 : BitVec 32 := Scalar.select v359 v360 v345
  let c8_i32_311 : BitVec 32 := 8#32
  let v363 : BitVec 32 := Scalar.muli v361 c8_i32_311
  let v364 : BitVec 32 := Scalar.addi c0_i32_312 v363
  let c2_i32_303 : BitVec 32 := 2#32
  let v362 : BitVec 32 := Scalar.remsi v344 c2_i32_303
  let c4_i32_313 : BitVec 32 := 4#32
  let v365 : BitVec 32 := Scalar.muli v362 c4_i32_313
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v367 : BitVec 32 := Scalar.muli v8 c1_i32_314
  let v368 : BitVec 32 := Scalar.addi v366 v367
  v368.toNat
def k0_dev14 (d0 : Dev nD) : Nat :=
  let c0_i32_338 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_319 : BitVec 32 := 0#32
  let v377 : BitVec 32 := Scalar.addi v10 c0_i32_319
  let c1_i32_320 : BitVec 32 := 1#32
  let v378 : BitVec 32 := Scalar.addi v377 c1_i32_320
  let c4_i32_321 : BitVec 32 := 4#32
  let v379 : BitVec 32 := Scalar.remsi v378 c4_i32_321
  let c0_i32_323 : BitVec 32 := 0#32
  let v381 : BitVec 1 := Scalar.cmpi .sgt v379 c0_i32_323
  let v382 : BitVec 32 := Scalar.extui v381
  let c0_i32_324 : BitVec 32 := 0#32
  let v383 : BitVec 1 := Scalar.cmpi .slt v379 c0_i32_324
  let v384 : BitVec 32 := Scalar.extui v383
  let v385 : BitVec 32 := Scalar.subi v382 v384
  let c2_i32_322 : BitVec 32 := 2#32
  let c0_i32_325 : BitVec 32 := 0#32
  let v386 : BitVec 1 := Scalar.cmpi .sgt c2_i32_322 c0_i32_325
  let v387 : BitVec 32 := Scalar.extui v386
  let c0_i32_326 : BitVec 32 := 0#32
  let v388 : BitVec 1 := Scalar.cmpi .slt c2_i32_322 c0_i32_326
  let v389 : BitVec 32 := Scalar.extui v388
  let v390 : BitVec 32 := Scalar.subi v387 v389
  let v391 : BitVec 1 := Scalar.cmpi .ne v385 v390
  let v392 : BitVec 32 := Scalar.remsi v379 c2_i32_322
  let c0_i32_327 : BitVec 32 := 0#32
  let v393 : BitVec 1 := Scalar.cmpi .ne v392 c0_i32_327
  let v394 : BitVec 1 := Scalar.andi v391 v393
  let v380 : BitVec 32 := Scalar.divsi v379 c2_i32_322
  let c1_i32_328 : BitVec 32 := 1#32
  let v395 : BitVec 32 := Scalar.subi v380 c1_i32_328
  let v396 : BitVec 32 := Scalar.select v394 v395 v380
  let c8_i32_337 : BitVec 32 := 8#32
  let v398 : BitVec 32 := Scalar.muli v396 c8_i32_337
  let v399 : BitVec 32 := Scalar.addi c0_i32_338 v398
  let c2_i32_329 : BitVec 32 := 2#32
  let v397 : BitVec 32 := Scalar.remsi v379 c2_i32_329
  let c4_i32_339 : BitVec 32 := 4#32
  let v400 : BitVec 32 := Scalar.muli v397 c4_i32_339
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v402 : BitVec 32 := Scalar.muli v8 c1_i32_340
  let v403 : BitVec 32 := Scalar.addi v401 v402
  v403.toNat
def k0_dev15 (d0 : Dev nD) : Nat :=
  let c0_i32_364 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_345 : BitVec 32 := 2#32
  let v412 : BitVec 32 := Scalar.addi v10 c2_i32_345
  let c1_i32_346 : BitVec 32 := 1#32
  let v413 : BitVec 32 := Scalar.addi v412 c1_i32_346
  let c4_i32_347 : BitVec 32 := 4#32
  let v414 : BitVec 32 := Scalar.remsi v413 c4_i32_347
  let c0_i32_349 : BitVec 32 := 0#32
  let v416 : BitVec 1 := Scalar.cmpi .sgt v414 c0_i32_349
  let v417 : BitVec 32 := Scalar.extui v416
  let c0_i32_350 : BitVec 32 := 0#32
  let v418 : BitVec 1 := Scalar.cmpi .slt v414 c0_i32_350
  let v419 : BitVec 32 := Scalar.extui v418
  let v420 : BitVec 32 := Scalar.subi v417 v419
  let c2_i32_348 : BitVec 32 := 2#32
  let c0_i32_351 : BitVec 32 := 0#32
  let v421 : BitVec 1 := Scalar.cmpi .sgt c2_i32_348 c0_i32_351
  let v422 : BitVec 32 := Scalar.extui v421
  let c0_i32_352 : BitVec 32 := 0#32
  let v423 : BitVec 1 := Scalar.cmpi .slt c2_i32_348 c0_i32_352
  let v424 : BitVec 32 := Scalar.extui v423
  let v425 : BitVec 32 := Scalar.subi v422 v424
  let v426 : BitVec 1 := Scalar.cmpi .ne v420 v425
  let v427 : BitVec 32 := Scalar.remsi v414 c2_i32_348
  let c0_i32_353 : BitVec 32 := 0#32
  let v428 : BitVec 1 := Scalar.cmpi .ne v427 c0_i32_353
  let v429 : BitVec 1 := Scalar.andi v426 v428
  let v415 : BitVec 32 := Scalar.divsi v414 c2_i32_348
  let c1_i32_354 : BitVec 32 := 1#32
  let v430 : BitVec 32 := Scalar.subi v415 c1_i32_354
  let v431 : BitVec 32 := Scalar.select v429 v430 v415
  let c8_i32_363 : BitVec 32 := 8#32
  let v433 : BitVec 32 := Scalar.muli v431 c8_i32_363
  let v434 : BitVec 32 := Scalar.addi c0_i32_364 v433
  let c2_i32_355 : BitVec 32 := 2#32
  let v432 : BitVec 32 := Scalar.remsi v414 c2_i32_355
  let c4_i32_365 : BitVec 32 := 4#32
  let v435 : BitVec 32 := Scalar.muli v432 c4_i32_365
  let v436 : BitVec 32 := Scalar.addi v434 v435
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v437 : BitVec 32 := Scalar.muli v8 c1_i32_366
  let v438 : BitVec 32 := Scalar.addi v436 v437
  v438.toNat
def k0_dev16 (d0 : Dev nD) : Nat :=
  let c0_i32_463 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_444 : BitVec 32 := 1#32
  let v525 : BitVec 32 := Scalar.addi v10 c1_i32_444
  let c1_i32_445 : BitVec 32 := 1#32
  let v526 : BitVec 32 := Scalar.addi v525 c1_i32_445
  let c4_i32_446 : BitVec 32 := 4#32
  let v527 : BitVec 32 := Scalar.remsi v526 c4_i32_446
  let c0_i32_448 : BitVec 32 := 0#32
  let v529 : BitVec 1 := Scalar.cmpi .sgt v527 c0_i32_448
  let v530 : BitVec 32 := Scalar.extui v529
  let c0_i32_449 : BitVec 32 := 0#32
  let v531 : BitVec 1 := Scalar.cmpi .slt v527 c0_i32_449
  let v532 : BitVec 32 := Scalar.extui v531
  let v533 : BitVec 32 := Scalar.subi v530 v532
  let c2_i32_447 : BitVec 32 := 2#32
  let c0_i32_450 : BitVec 32 := 0#32
  let v534 : BitVec 1 := Scalar.cmpi .sgt c2_i32_447 c0_i32_450
  let v535 : BitVec 32 := Scalar.extui v534
  let c0_i32_451 : BitVec 32 := 0#32
  let v536 : BitVec 1 := Scalar.cmpi .slt c2_i32_447 c0_i32_451
  let v537 : BitVec 32 := Scalar.extui v536
  let v538 : BitVec 32 := Scalar.subi v535 v537
  let v539 : BitVec 1 := Scalar.cmpi .ne v533 v538
  let v540 : BitVec 32 := Scalar.remsi v527 c2_i32_447
  let c0_i32_452 : BitVec 32 := 0#32
  let v541 : BitVec 1 := Scalar.cmpi .ne v540 c0_i32_452
  let v542 : BitVec 1 := Scalar.andi v539 v541
  let v528 : BitVec 32 := Scalar.divsi v527 c2_i32_447
  let c1_i32_453 : BitVec 32 := 1#32
  let v543 : BitVec 32 := Scalar.subi v528 c1_i32_453
  let v544 : BitVec 32 := Scalar.select v542 v543 v528
  let c8_i32_462 : BitVec 32 := 8#32
  let v546 : BitVec 32 := Scalar.muli v544 c8_i32_462
  let v547 : BitVec 32 := Scalar.addi c0_i32_463 v546
  let c2_i32_454 : BitVec 32 := 2#32
  let v545 : BitVec 32 := Scalar.remsi v527 c2_i32_454
  let c4_i32_464 : BitVec 32 := 4#32
  let v548 : BitVec 32 := Scalar.muli v545 c4_i32_464
  let v549 : BitVec 32 := Scalar.addi v547 v548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_465 : BitVec 32 := 1#32
  let v550 : BitVec 32 := Scalar.muli v8 c1_i32_465
  let v551 : BitVec 32 := Scalar.addi v549 v550
  v551.toNat
def k0_dev17 (d0 : Dev nD) : Nat :=
  let c0_i32_489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_470 : BitVec 32 := 0#32
  let v560 : BitVec 32 := Scalar.addi v10 c0_i32_470
  let c1_i32_471 : BitVec 32 := 1#32
  let v561 : BitVec 32 := Scalar.addi v560 c1_i32_471
  let c4_i32_472 : BitVec 32 := 4#32
  let v562 : BitVec 32 := Scalar.remsi v561 c4_i32_472
  let c0_i32_474 : BitVec 32 := 0#32
  let v564 : BitVec 1 := Scalar.cmpi .sgt v562 c0_i32_474
  let v565 : BitVec 32 := Scalar.extui v564
  let c0_i32_475 : BitVec 32 := 0#32
  let v566 : BitVec 1 := Scalar.cmpi .slt v562 c0_i32_475
  let v567 : BitVec 32 := Scalar.extui v566
  let v568 : BitVec 32 := Scalar.subi v565 v567
  let c2_i32_473 : BitVec 32 := 2#32
  let c0_i32_476 : BitVec 32 := 0#32
  let v569 : BitVec 1 := Scalar.cmpi .sgt c2_i32_473 c0_i32_476
  let v570 : BitVec 32 := Scalar.extui v569
  let c0_i32_477 : BitVec 32 := 0#32
  let v571 : BitVec 1 := Scalar.cmpi .slt c2_i32_473 c0_i32_477
  let v572 : BitVec 32 := Scalar.extui v571
  let v573 : BitVec 32 := Scalar.subi v570 v572
  let v574 : BitVec 1 := Scalar.cmpi .ne v568 v573
  let v575 : BitVec 32 := Scalar.remsi v562 c2_i32_473
  let c0_i32_478 : BitVec 32 := 0#32
  let v576 : BitVec 1 := Scalar.cmpi .ne v575 c0_i32_478
  let v577 : BitVec 1 := Scalar.andi v574 v576
  let v563 : BitVec 32 := Scalar.divsi v562 c2_i32_473
  let c1_i32_479 : BitVec 32 := 1#32
  let v578 : BitVec 32 := Scalar.subi v563 c1_i32_479
  let v579 : BitVec 32 := Scalar.select v577 v578 v563
  let c8_i32_488 : BitVec 32 := 8#32
  let v581 : BitVec 32 := Scalar.muli v579 c8_i32_488
  let v582 : BitVec 32 := Scalar.addi c0_i32_489 v581
  let c2_i32_480 : BitVec 32 := 2#32
  let v580 : BitVec 32 := Scalar.remsi v562 c2_i32_480
  let c4_i32_490 : BitVec 32 := 4#32
  let v583 : BitVec 32 := Scalar.muli v580 c4_i32_490
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v585 : BitVec 32 := Scalar.muli v8 c1_i32_491
  let v586 : BitVec 32 := Scalar.addi v584 v585
  v586.toNat
def k0_dev18 (d0 : Dev nD) : Nat :=
  let c0_i32_515 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_496 : BitVec 32 := 2#32
  let v595 : BitVec 32 := Scalar.addi v10 c2_i32_496
  let c1_i32_497 : BitVec 32 := 1#32
  let v596 : BitVec 32 := Scalar.addi v595 c1_i32_497
  let c4_i32_498 : BitVec 32 := 4#32
  let v597 : BitVec 32 := Scalar.remsi v596 c4_i32_498
  let c0_i32_500 : BitVec 32 := 0#32
  let v599 : BitVec 1 := Scalar.cmpi .sgt v597 c0_i32_500
  let v600 : BitVec 32 := Scalar.extui v599
  let c0_i32_501 : BitVec 32 := 0#32
  let v601 : BitVec 1 := Scalar.cmpi .slt v597 c0_i32_501
  let v602 : BitVec 32 := Scalar.extui v601
  let v603 : BitVec 32 := Scalar.subi v600 v602
  let c2_i32_499 : BitVec 32 := 2#32
  let c0_i32_502 : BitVec 32 := 0#32
  let v604 : BitVec 1 := Scalar.cmpi .sgt c2_i32_499 c0_i32_502
  let v605 : BitVec 32 := Scalar.extui v604
  let c0_i32_503 : BitVec 32 := 0#32
  let v606 : BitVec 1 := Scalar.cmpi .slt c2_i32_499 c0_i32_503
  let v607 : BitVec 32 := Scalar.extui v606
  let v608 : BitVec 32 := Scalar.subi v605 v607
  let v609 : BitVec 1 := Scalar.cmpi .ne v603 v608
  let v610 : BitVec 32 := Scalar.remsi v597 c2_i32_499
  let c0_i32_504 : BitVec 32 := 0#32
  let v611 : BitVec 1 := Scalar.cmpi .ne v610 c0_i32_504
  let v612 : BitVec 1 := Scalar.andi v609 v611
  let v598 : BitVec 32 := Scalar.divsi v597 c2_i32_499
  let c1_i32_505 : BitVec 32 := 1#32
  let v613 : BitVec 32 := Scalar.subi v598 c1_i32_505
  let v614 : BitVec 32 := Scalar.select v612 v613 v598
  let c8_i32_514 : BitVec 32 := 8#32
  let v616 : BitVec 32 := Scalar.muli v614 c8_i32_514
  let v617 : BitVec 32 := Scalar.addi c0_i32_515 v616
  let c2_i32_506 : BitVec 32 := 2#32
  let v615 : BitVec 32 := Scalar.remsi v597 c2_i32_506
  let c4_i32_516 : BitVec 32 := 4#32
  let v618 : BitVec 32 := Scalar.muli v615 c4_i32_516
  let v619 : BitVec 32 := Scalar.addi v617 v618
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v620 : BitVec 32 := Scalar.muli v8 c1_i32_517
  let v621 : BitVec 32 := Scalar.addi v619 v620
  v621.toNat
def k0_off4 (d0 : Dev nD) (c0_i32_538 : BitVec 32) (c0_i32_546 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_537 : BitVec 32 := 4#32
  let v642 : BitVec 32 := Scalar.addi v10 c4_i32_537
  let v643 : BitVec 32 := Scalar.subi v642 c0_i32_538
  let c1_i32_539 : BitVec 32 := 1#32
  let v644 : BitVec 32 := Scalar.subi v643 c1_i32_539
  let c4_i32_540 : BitVec 32 := 4#32
  let v645 : BitVec 32 := Scalar.remsi v644 c4_i32_540
  let c128_i32_545 : BitVec 32 := 128#32
  let v649 : BitVec 32 := Scalar.muli v645 c128_i32_545
  let v650 : BitVec 32 := Scalar.addi v649 c0_i32_546
  let v651 : Index := Scalar.indexCast v650
  let c0_547 : Index := 0#32
  ![v651.toNat, 0]
abbrev stage0_0 : Fin 1 → Memref sig .tc .vmem S16x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x128x512 : Shape := ⟨3, ![64, 128, 512]⟩
abbrev S1x512 : Shape := ⟨2, ![1, 512]⟩
abbrev S4x2048x512 : Shape := ⟨3, ![4, 2048, 512]⟩
abbrev S512 : Shape := ⟨1, ![512]⟩
abbrev S_ : Shape := ⟨0, ![]⟩
abbrev S2048x512 : Shape := ⟨2, ![2048, 512]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x128x512, .bf16⟩
  | .hbm, ⟨1, _⟩ => ⟨S1x512, .bf16⟩
  | .hbm, ⟨2, _⟩ => ⟨S4x2048x512, .bf16⟩
  | .hbm, ⟨3, _⟩ => ⟨S512, .bf16⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x512, .f32⟩
  | .hbm, ⟨19, _⟩ => ⟨S2048x512, .f32⟩
  | .hbm, ⟨20, _⟩ => ⟨S512, .f32⟩
  | .hbm, ⟨21, _⟩ => ⟨S1x512, .f32⟩
  | .hbm, ⟨22, _⟩ => ⟨S2048x512, .f32⟩
  | .hbm, ⟨23, _⟩ => ⟨S2048x512, .f32⟩
  | _, _ => ⟨S64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Mem.lean ====
/-
# The kernel's memrefs, its peers and what each buffer comes to hold

Sixteen devices, device `c = 4 q + z`: `z` the place along the axis whose partial sums are added, `q` the place among
the four devices that share one `z`. Each device adds the rows of block `4 z + q` of its own operand and of the three
others' on its `z`-line, normalises them, and sends the result to the three other `q` of its `z`. This module names the
peers, the two halves of each slot of the scratch buffers, and the contents that the protocol passes between devices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Ring.Trips
public import Idealize.ShloMosaic.Lib.ValueLayout
public import Idealize.ShloMosaic.Lib.ViewIndex
public import Idealize.ShloMosaic.Lib.ValueIdxCore
public import Idealize.ShloMosaic.Lib.Tactic

@[expose] public section

set_option maxRecDepth 16384

noncomputable section

namespace Cert.KernelProof

open Cert.KernelIdeal Cert.KernelIdeal.Gen

open Idealize.ShloMosaic
open Idealize.ShloMosaic.TcCoe

variable {F : FTy → Type} [FloatOps F]

/-! ## The peers -/

/-- The device `k` places on along the summed axis, the place among the four gathering devices kept. -/
def zp (k : ℕ) (c : Dev nD) : Dev nD := ⟨4 * (c.val / 4) + (c.val % 4 + k) % 4, by have := c.isLt; simp only [nD] at *; omega⟩

/-- The device `k` places on among the four gathering devices, the place along the summed axis kept. -/
def qp (k : ℕ) (c : Dev nD) : Dev nD := ⟨4 * ((c.val / 4 + k) % 4) + c.val % 4, by have := c.isLt; simp only [nD] at *; omega⟩

/-- Along the summed axis, `s + 1` places on and then `3 - s` is once round, -/
theorem zp_back (s : Fin 3) (c : Dev nD) : zp (3 - s.val) (zp (s.val + 1) c) = c := by revert s c; decide +kernel
/-- and so the other way about; -/
theorem zp_forth (s : Fin 3) (c : Dev nD) : zp (s.val + 1) (zp (3 - s.val) c) = c := by revert s c; decide +kernel
/-- among the gathering four the same, -/
theorem qp_back (s : Fin 3) (c : Dev nD) : qp (3 - s.val) (qp (s.val + 1) c) = c := by revert s c; decide +kernel
/-- both ways. -/
theorem qp_forth (s : Fin 3) (c : Dev nD) : qp (s.val + 1) (qp (3 - s.val) c) = c := by revert s c; decide +kernel

/-! ## The memrefs -/

abbrev xM : Memref sig .tc .vmem S16x128x512 .bf16 := Memref.whole cc0_stg0_0
abbrev gM : Memref sig .tc .vmem S1x512 .bf16 := Memref.whole cc0_stg1_0
abbrev oM : Memref sig .tc .vmem S512x512 .f32 := Memref.whole cc0_stg2_0
abbrev zsM : Memref sig .tc .vmem S3x2x64x512 .bf16 := Memref.whole cc0_scratch0
abbrev zrM : Memref sig .tc .vmem S3x2x64x512 .bf16 := Memref.whole cc0_scratch1
abbrev gsM : Memref sig .tc .vmem S2x64x512 .bf16 := Memref.whole cc0_scratch2
abbrev grM : Memref sig .tc .vmem S3x2x64x512 .bf16 := Memref.whole cc0_scratch3

/-- The halves of a three-slot buffer lie in it, -/
theorem r32_inb (s : Fin 3) (h : Fin 2) : ∀ a : Fin S3x2x64x512.rank, (![s.val, h.val, 0, 0] : Fin 4 → ℕ) a + S1x1x64x512.size a ≤ S3x2x64x512.size a := by
  revert s h; decide
/-- and those of the two-half buffer. -/
theorem r2_inb (h : Fin 2) : ∀ a : Fin S2x64x512.rank, (![h.val, 0, 0] : Fin 3 → ℕ) a + S1x64x512.size a ≤ S2x64x512.size a := by
  revert h; decide

/-- Half `h` of slot `s` of a buffer of three slots. -/
abbrev r32 (s : Fin 3) (h : Fin 2) : Rect S3x2x64x512 := Rect.unit (s := S3x2x64x512) ![s.val, h.val, 0, 0] S1x1x64x512.size (r32_inb s h)
/-- Half `h` of the buffer of two halves. -/
abbrev r2 (h : Fin 2) : Rect S2x64x512 := Rect.unit (s := S2x64x512) ![h.val, 0, 0] S1x64x512.size (r2_inb h)

abbrev zsP (s : Fin 3) (h : Fin 2) : Memref sig .tc .vmem S1x1x64x512 .bf16 := zsM.slice (r32 s h) (fun _ => rfl)
abbrev zrP (s : Fin 3) (h : Fin 2) : Memref sig .tc .vmem S1x1x64x512 .bf16 := zrM.slice (r32 s h) (fun _ => rfl)
abbrev grP (s : Fin 3) (h : Fin 2) : Memref sig .tc .vmem S1x1x64x512 .bf16 := grM.slice (r32 s h) (fun _ => rfl)
abbrev gsP (h : Fin 2) : Memref sig .tc .vmem S1x64x512 .bf16 := gsM.slice (r2 h) (fun _ => rfl)

/-- The same halves as the copies name them, their unit axes dropped. -/
abbrev zsQ (s : Fin 3) (h : Fin 2) : Memref sig .tc .vmem S64x512 .bf16 := (zsP s h).squeeze S64x512 squeezes_S1x1x64x512_S64x512
abbrev zrQ (s : Fin 3) (h : Fin 2) : Memref sig .tc .vmem S64x512 .bf16 := (zrP s h).squeeze S64x512 squeezes_S1x1x64x512_S64x512
abbrev grQ (s : Fin 3) (h : Fin 2) : Memref sig .tc .vmem S64x512 .bf16 := (grP s h).squeeze S64x512 squeezes_S1x1x64x512_S64x512
abbrev gsQ (h : Fin 2) : Memref sig .tc .vmem S64x512 .bf16 := (gsP h).squeeze S64x512 squeezes_S1x64x512_S64x512

/-- What one copy credits. -/
abbrev N : ℕ := (zrQ 0 0).view.dmaCredit
/-- A copy credits something. -/
theorem N_pos : 0 < N := View.dmaCredit_pos _ (by decide)

/-- The sixteenth-sized pieces of the three-slot buffers do not meet, -/
theorem r32_disj (t t' : Fin 3 × Fin 2) (h : t ≠ t') : Disjoint (r32 t.1 t.2).set (r32 t'.1 t'.2).set := by
  rw [Finset.disjoint_left]
  intro i hi hi'
  rw [← Rect.map_emb_univ, Finset.mem_map] at hi hi'
  obtain ⟨j, -, rfl⟩ := hi
  obtain ⟨j', -, e⟩ := hi'
  have e0 := congrArg (fun i : S3x2x64x512.Idx => (i 0).val) e
  have e1 := congrArg (fun i : S3x2x64x512.Idx => (i 1).val) e
  have j0 : (j 0).val < 1 := (j 0).isLt
  have j1 : (j 1).val < 1 := (j 1).isLt
  have j0' : (j' 0).val < 1 := (j' 0).isLt
  have j1' : (j' 1).val < 1 := (j' 1).isLt
  have f0 : t'.1.val + 1 * (j' 0).val = t.1.val + 1 * (j 0).val := e0
  have f1 : t'.2.val + 1 * (j' 1).val = t.2.val + 1 * (j 1).val := e1
  exact h (Prod.ext (Fin.ext (by omega)) (Fin.ext (by omega)))

/-- and are all of it. -/
theorem r32_cov : (Finset.univ : Finset (Fin 3 × Fin 2)).biUnion (fun t => (r32 t.1 t.2).set) = Finset.univ := by
  refine Finset.eq_univ_iff_forall.mpr fun i => Finset.mem_biUnion.mpr ⟨(i 0, i 1), Finset.mem_univ _, ?_⟩
  rw [← Rect.map_emb_univ, Finset.mem_map]
  refine ⟨ValueIdx.ix4 (0 : Fin 1) (0 : Fin 1) (i 2) (i 3), Finset.mem_univ _, funext fun a => Fin.ext ?_⟩
  rw [Rect.emb_apply]
  match a with
  | ⟨0, _⟩ => show (i 0).val + 1 * 0 = _; rfl
  | ⟨1, _⟩ => show (i 1).val + 1 * 0 = _; rfl
  | ⟨2, _⟩ => show 0 + 1 * (i 2).val = _; rw [Nat.zero_add, Nat.one_mul]; rfl
  | ⟨3, _⟩ => show 0 + 1 * (i 3).val = _; rw [Nat.zero_add, Nat.one_mul]; rfl

/-- The two halves do not meet, -/
theorem r2_disj (t t' : Fin 2) (h : t ≠ t') : Disjoint (r2 t).set (r2 t').set := by
  rw [Finset.disjoint_left]
  intro i hi hi'
  rw [← Rect.map_emb_univ, Finset.mem_map] at hi hi'
  obtain ⟨j, -, rfl⟩ := hi
  obtain ⟨j', -, e⟩ := hi'
  have e0 := congrArg (fun i : S2x64x512.Idx => (i 0).val) e
  have j0 : (j 0).val < 1 := (j 0).isLt
  have j0' : (j' 0).val < 1 := (j' 0).isLt
  have f0 : t'.val + 1 * (j' 0).val = t.val + 1 * (j 0).val := e0
  exact h (Fin.ext (by omega))

/-- and are all of it. -/
theorem r2_cov : (Finset.univ : Finset (Fin 2)).biUnion (fun t => (r2 t).set) = Finset.univ := by
  refine Finset.eq_univ_iff_forall.mpr fun i => Finset.mem_biUnion.mpr ⟨i 0, Finset.mem_univ _, ?_⟩
  rw [← Rect.map_emb_univ, Finset.mem_map]
  refine ⟨ValueIdx.ix3 (0 : Fin 1) (i 1) (i 2), Finset.mem_univ _, funext fun a => Fin.ext ?_⟩
  rw [Rect.emb_apply]
  match a with
  | ⟨0, _⟩ => show (i 0).val + 1 * 0 = _; rfl
  | ⟨1, _⟩ => show 0 + 1 * (i 1).val = _; rw [Nat.zero_add, Nat.one_mul]; rfl
  | ⟨2, _⟩ => show 0 + 1 * (i 2).val = _; rw [Nat.zero_add, Nat.one_mul]; rfl

/-! ## What a copy lands -/

/-- The half of the two-half buffer re-indexed as a half slot of the three-slot buffer. -/
def relay {α : Type} (Y : S1x64x512.Idx → α) : S1x1x64x512.Idx → α := fun j =>
  Y (Shape.reshapeEquiv squeezes_S1x64x512_S64x512.numel_eq ((Shape.reshapeEquiv squeezes_S1x1x64x512_S64x512.numel_eq).symm j))

/-- A copy through dropped unit axes: the target, read with its unit axes, holds what the source does. -/
theorem sq_land {κ κ' : Kind} {sp sp' : Space} {e : EltTy} {s s' s'' : Shape} {Val : EltTy → Type}
    (ms : Memref sig κ sp s e) (md : Memref sig κ' sp' s' e) (hs : s.Squeezes s'') (hd : s'.Squeezes s'')
    (fs : ms.view.ty.Contents Val) (fd : md.view.ty.Contents Val) :
    md.view.read Val ((md.squeeze s'' hd).view.write Val fd ((ms.squeeze s'' hs).view.read Val fs) Finset.univ)
      = fun j => ms.view.read Val fs (Shape.reshapeEquiv hs.numel_eq ((Shape.reshapeEquiv hd.numel_eq).symm j)) := by
  funext j
  have h := View.read_write_reshape (v := md.view) hd.numel_eq fd ((ms.squeeze s'' hs).view.read Val fs) ((Shape.reshapeEquiv hd.numel_eq).symm j)
  rw [Equiv.apply_symm_apply] at h
  exact h

/-! ## Contents -/

variable (m : (ℓ : Loc nD τ sig) → Buf (Elt F) ℓ)

/-- Device `c`'s operand as staged: sixteen blocks of 128 rows. -/
def xs (c : Dev nD) : (cc0_stg0_0 : Ref sig .tc).ty.Contents (Elt F) :=
  (win0_0.blk (0 : Fin 1)).view.read (Elt F) (m ((c : Thread nD τ).loc main_arg0))
/-- Device `c`'s scale row as staged. -/
def gs (c : Dev nD) : (cc0_stg1_0 : Ref sig .tc).ty.Contents (Elt F) :=
  (win0_1.blk (0 : Fin 1)).view.read (Elt F) (m ((c : Thread nD τ).loc main_arg1))

/-- The block of its operand that device `c` reads for send slot `r`. -/
def x1 (c : Dev nD) (r : Fin 3) : Vec F S1x128x512 .bf16 :=
  xM.view.readAt (Elt F) (Rect.unit (s := S16x128x512) (k0_off1 c (BitVec.ofNat 32 r.val)) S1x128x512.size (k0_off1_inb c r)).toLoadRect (xs m c)
/-- The block of its operand that device `c` keeps. -/
def xo (c : Dev nD) : Vec F S1x128x512 .bf16 :=
  xM.view.readAt (Elt F) (Rect.unit (s := S16x128x512) (k0_off2 c) S1x128x512.size (k0_off2_inb c)).toLoadRect (xs m c)

/-- What device `c` stores in send slot `s`. -/
def slab (c : Dev nD) : Fin 3 → Vec F S1x2x64x512 .bf16
  | 0 => k0_pay2 (k0_pay1 (x1 m c 0))
  | 1 => k0_pay3 (x1 m c 1)
  | 2 => k0_pay4 (x1 m c 2)
/-- The send buffer once its three slots are stored. -/
def zW (c : Dev nD) : S3x2x64x512.Idx → Elt F .bf16 := fun i => slab m c (i 0) (ValueIdx.ix4 (0 : Fin 1) (i 1) (i 2) (i 3))
/-- Half `h` of send slot `s`. -/
def zC (c : Dev nD) (s : Fin 3) (h : Fin 2) : Vec F S1x1x64x512 .bf16 := fun j => zW m c ((r32 s h).emb j)

/-- The half as received: in slot `s` device `c` has what the device `3 - s` places on sent. -/
def zL (c : Dev nD) (s : Fin 3) (h : Fin 2) : Vec F S1x1x64x512 .bf16 := zC m (zp (3 - s.val) c) s h

/-- The normalised rows that device `c` makes, the first half -/
def m0 (c : Dev nD) : Vec F S64x512 .f32 := k0_pay7 (k0_pay6 (k0_pay5 (xo m c)) (zL m c 0 0) (zL m c 1 0)) (zL m c 2 0) (gs m c)
/-- and the second. -/
def m1 (c : Dev nD) : Vec F S64x512 .f32 := k0_pay11 (k0_pay10 (k0_pay9 (xo m c)) (zL m c 0 1) (zL m c 1 1)) (zL m c 2 1) (gs m c)

/-- The normalised rows as device `c` sends them. -/
def gC (c : Dev nD) : Fin 2 → Vec F S1x64x512 .bf16
  | 0 => k0_pay8 (m0 m c)
  | 1 => k0_pay12 (k0_pay10 (k0_pay9 (xo m c)) (zL m c 0 1) (zL m c 1 1)) (zL m c 2 1) (gs m c)
/-- What device `c` receives in half `h` of slot `s`: the rows of the device `3 - s` places on among the gathering four. -/
def gL (c : Dev nD) (s : Fin 3) (h : Fin 2) : Vec F S1x1x64x512 .bf16 := relay (gC m (qp (3 - s.val) c) h)

end Cert.KernelProof

end
-- ==== Proof.Proto.lean ====
/-
# The protocol between the sixteen devices: cells, duties, payloads, debts, levels

Each device has three ready semaphores, the runtime's barrier semaphore, and twelve pairs of a send and a receive
semaphore. Every one of them is used in one round: a ready semaphore is paid one unit by the peer whose landing slots it
announces; the barrier is paid one unit by each of the three gathering peers, with that peer's landing slots; a send
semaphore is paid by the device's own copy, with the copy's source; a receive semaphore by the peer's copy, with the
landed contents.
-/
module

public import proofs.«01_k».proof.Proof.Mem

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Cells -/

/-- The protocol's semaphores on one device: the ready semaphores, the barrier, and the copies' (kind 0 the first
    exchange's send, 1 its receive, 2 the gather's send, 3 its receive; then slot and half). -/
abbrev CK : Type := Fin 3 ⊕ Unit ⊕ (Fin 4 × Fin 3 × Fin 2)
/-- The duties' names: a barrier has three, every other cell one. -/
abbrev D : Type := Fin 3

/-- The semaphore of a key. -/
def csem : CK → SemLoc sig
  | .inl s => .reg ⟨s.val, by have := s.isLt; show _ < 4; omega⟩
  | .inr (.inl _) => .reg ⟨3, by show _ < 4; omega⟩
  | .inr (.inr (k, s, h)) => .dma ⟨3 + 6 * k.val + 2 * s.val + h.val, by have := k.isLt; have := s.isLt; have := h.isLt; show _ < 27; omega⟩

/-- The key of a semaphore, if the protocol has it. -/
def dec : SemLoc sig → Option CK
  | .reg s => if h : s.val < 3 then some (.inl ⟨s.val, h⟩) else some (.inr (.inl ()))
  | .dma s => if h : 3 ≤ s.val then some (.inr (.inr (⟨(s.val - 3) / 6, by have : s.val < 27 := s.isLt; omega⟩, ⟨(s.val - 3) % 6 / 2, by omega⟩, ⟨(s.val - 3) % 2, by omega⟩))) else none

/-- A semaphore's key is read back from it, -/
theorem dec_csem (k : CK) : dec (csem k) = some k := by revert k; decide +kernel
/-- so different keys have different semaphores, -/
theorem csem_inj {k k' : CK} (h : csem k = csem k') : k = k' := Option.some.inj ((dec_csem k).symm.trans ((congrArg dec h).trans (dec_csem k')))

/-- A device's cell of a key. -/
abbrev kcell (ck : Dev nD × CK) : GSem nD τ sig := ((ck.1 : Thread nD τ), csem ck.2)

/-- and different devices or keys different cells. -/
theorem kcell_inj : Function.Injective (kcell : Dev nD × CK → GSem nD τ sig) := by
  rintro ⟨c, k⟩ ⟨c', k'⟩ h
  have h1 : (c : Thread nD τ).1 = (c' : Thread nD τ).1 := congrArg (fun g : GSem nD τ sig => g.1.1) h
  have h2 : csem k = csem k' := congrArg (fun g : GSem nD τ sig => g.2) h
  exact Prod.ext h1 (csem_inj h2)

/-! ## The units of payment: one token per signal and per end of a copy -/

/-- The tokens a device pays: its ready signals, its barrier signals, its copies' ends. -/
abbrev T : Type := Fin 3 ⊕ Fin 3 ⊕ (Fin 4 × Fin 3 × Fin 2)

/-- The key of the cell that a token pays -/
def tk : T → CK
  | .inl s => .inl s
  | .inr (.inl _) => .inr (.inl ())
  | .inr (.inr x) => .inr (.inr x)
/-- and its duty there. -/
def td : T → D
  | .inr (.inl j) => j
  | _ => 0

/-- Stepping along the summed axis, as a one-to-one map, -/
def zE (s : Fin 3) : Dev nD ≃ Dev nD := ⟨zp (s.val + 1), zp (3 - s.val), zp_back s, zp_forth s⟩
/-- and among the gathering devices. -/
def qE (s : Fin 3) : Dev nD ≃ Dev nD := ⟨qp (s.val + 1), qp (3 - s.val), qp_back s, qp_forth s⟩

/-- The device whose cell a token pays, from the device that pays. -/
def pe : T → (Dev nD ≃ Dev nD)
  | .inl s => (zE s).symm
  | .inr (.inl j) => (qE j).symm
  | .inr (.inr (0, _, _)) => Equiv.refl _
  | .inr (.inr (1, s, _)) => zE s
  | .inr (.inr (2, _, _)) => Equiv.refl _
  | .inr (.inr (3, s, _)) => qE s

/-- The cell a token of device `c` pays. -/
abbrev tcell (c : Dev nD) (t : T) : GSem nD τ sig := kcell (pe t c, tk t)

/-- What a token pays: one unit for a signal, a copy's credit otherwise. -/
def kamt : CK → ℕ
  | .inr (.inr _) => N
  | _ => 1
/-- What a cell is paid in all. -/
def kexp : CK → ℕ
  | .inl _ => 1
  | .inr (.inl _) => 3
  | .inr (.inr _) => N
/-- A cell's duties. -/
def kduties : CK → Finset D
  | .inr (.inl _) => Finset.univ
  | _ => {0}

/-- Every payment is of something. -/
theorem kamt_pos (k : CK) : 0 < kamt k := by
  rcases k with s | u | x
  · exact Nat.one_pos
  · exact Nat.one_pos
  · exact N_pos

/-- A token's duty is one of its cell's. -/
theorem td_mem (t : T) : td t ∈ kduties (tk t) := by
  rcases t with s | j | x
  · exact Finset.mem_singleton_self _
  · exact Finset.mem_univ _
  · exact Finset.mem_singleton_self _

/-! ## Resources -/

abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- A device's memref at any contents. -/
abbrev anyM (c : Dev nD) {sp : Space} {s : Shape} {e : EltTy} (M : Memref sig .tc sp s e) (q : PosShare TreeShare) : sProp 𝕄 :=
  ownsSat (c : Thread nD τ) M q fun _ => True

/-- A third of a share: what each of the three copies out of one source holds of it. -/
def third : Fin 3 → PosShare TreeShare
  | 0 => fullShare.left
  | 1 => fullShare.right.left
  | 2 => fullShare.right.right

/-- What a payment hands over, by the key of the cell, its device and the duty. -/
def pay : CK → Dev nD → D → sProp 𝕄
  | .inl s, c, _ => iprop(anyM (zE s c) (zrP s 0) fullShare ∗ anyM (zE s c) (zrP s 1) fullShare)
  | .inr (.inl _), c, j => iprop(anyM (qE j c) (grP j 0) fullShare ∗ anyM (qE j c) (grP j 1) fullShare)
  | .inr (.inr (0, s, h)), c, _ => anyM c (zsP s h) fullShare
  | .inr (.inr (1, s, h)), c, _ => owns (c : Thread nD τ) (zrP s h) fullShare (zL m c s h)
  | .inr (.inr (2, s, h)), c, _ => anyM c (gsP h) (third s)
  | .inr (.inr (3, s, h)), c, _ => owns (c : Thread nD τ) (grP s h) fullShare (gL m c s h)

instance pay_storable (k : CK) (c : Dev nD) (d : D) : BI.Storable (upEmb : UEmb _ 𝕄) (pay m k c d) := by
  rcases k with s | u | ⟨k, s, h⟩
  · unfold pay; infer_instance
  · unfold pay; infer_instance
  · fin_cases k <;> (simp only [pay]; infer_instance)

/-- The schedule: one round. -/
def sched : Rounds.Schedule (GSem nD τ sig) D 𝕄 where
  duties g r := if r = 0 ∧ g.1.2 = .tc then ((dec g.2).map kduties).getD ∅ else ∅
  unitless _ := False
  amount g _ _ := ((dec g.2).map kamt).getD 1
  payload g _ d := match dec g.2 with
    | some k => pay m k g.1.1 d
    | none => iprop(emp)
  amount_pos g _ _ _ := by
    cases dec g.2 with
    | none => exact Nat.one_pos
    | some k => exact kamt_pos k

instance sched_payload_storable (g : GSem nD τ sig) (r : ℕ) (d : D) : BI.Storable (upEmb : UEmb _ 𝕄) ((sched (F := F) m).payload g r d) := by
  show BI.Storable upEmb (match dec g.2 with
    | some k => pay m k g.1.1 d
    | none => iprop(emp))
  cases dec g.2 <;> infer_instance

section Sched
variable (c : Dev nD) (k : CK)

/-- A cell's duties in its one round. -/
theorem duties_eq : (sched (F := F) m).duties (kcell (c, k)) 0 = kduties k := by
  show (if (0 : ℕ) = 0 ∧ (c : Thread nD τ).2 = .tc then ((dec (csem k)).map kduties).getD ∅ else ∅) = _
  rw [if_pos ⟨rfl, rfl⟩, dec_csem]; rfl
/-- There is no later round. -/
theorem duties_later (g : GSem nD τ sig) : ∀ r, 1 ≤ r → (sched (F := F) m).duties g r = ∅ :=
  fun r hr => if_neg fun h => by omega
/-- What a duty pays, -/
theorem amount_eq (r : ℕ) (d : D) : (sched (F := F) m).amount (kcell (c, k)) r d = kamt k := by
  show ((dec (csem k)).map kamt).getD 1 = _; rw [dec_csem]; rfl
/-- and what it hands over. -/
theorem payload_eq (r : ℕ) (d : D) : (sched (F := F) m).payload (kcell (c, k)) r d = pay m k c d := by
  show (match dec (csem k) with
    | some k => pay m k c d
    | none => iprop(emp)) = _
  rw [dec_csem]
/-- What a cell expects in all. -/
theorem expect_eq : (sched (F := F) m).expect (kcell (c, k)) 0 = kexp k := by
  unfold Schedule.expect Schedule.amountOf
  rw [duties_eq, Finset.sum_congr rfl fun d _ => amount_eq m c k 0 d, Finset.sum_const, smul_eq_mul]
  rcases k with s | u | x
  · rfl
  · rfl
  · exact Nat.one_mul _

/-- All the payloads of a cell's round. -/
def rest : CK → Dev nD → sProp 𝕄
  | .inr (.inl u), c => iprop(pay m (.inr (.inl u)) c 0 ∗ pay m (.inr (.inl u)) c 1 ∗ pay m (.inr (.inl u)) c 2)
  | k, c => pay m k c 0

/-- The payloads of a round together. -/
theorem rest_eq : bigSep ((sched (F := F) m).duties (kcell (c, k)) 0 \ ∅) (fun d => (sched (F := F) m).payload (kcell (c, k)) 0 d) = rest m k c := by
  rw [Finset.sdiff_empty, duties_eq, show (fun d => (sched (F := F) m).payload (kcell (c, k)) 0 d) = pay m k c from funext fun d => payload_eq m c k 0 d]
  rcases k with s | u | x
  · exact bigSep_singleton
  · show bigSep Finset.univ _ = _
    rw [bigSep_univ_eq_bigSepL [(0 : Fin 3), 1, 2] (by decide) (by decide), bigSepL_cons_cons, bigSepL_cons_cons, bigSepL_singleton]
    rfl
  · exact bigSep_singleton

end Sched

/-! ## Levels and debts -/

/-- The level of a key: a wait is allowed while what is owed lies above it. -/
def klev : CK → ℕ
  | .inl _ => 1
  | .inr (.inl _) => 1
  | .inr (.inr (1, _, _)) => 2
  | .inr (.inr (3, _, _)) => 3
  | _ => 0

/-- Every device has one kind of debt, -/
def L (g : GSem nD τ sig) : Finset Unit := if g.1.2 = .tc then {()} else ∅
/-- and a cell's level is its key's. -/
def lv (g : GSem nD τ sig) (_ : Unit) : ℕ := ((dec g.2).map klev).getD 0

/-- Nothing else has debts; -/
theorem L_of_ne (g : GSem nD τ sig) (h : g.1.2 ≠ .tc) : L g = ∅ := if_neg h
/-- a device's own cells have the one kind, -/
theorem L_tc (c : Dev nD) (sm : SemLoc sig) : L ((c : Thread nD τ), sm) = {()} := if_pos rfl
/-- at its key's level. -/
theorem lv_kcell (c : Dev nD) (k : CK) (u : Unit) : lv (kcell (c, k)) u = klev k := by
  show ((dec (csem k)).map klev).getD 0 = _; rw [dec_csem]; rfl

/-- What device `c` owes while the tokens of `l` are still to pay, the next one first. -/
def owed (c : Dev nD) : List T → CellTallies nD τ sig Unit
  | [] => 0
  | t :: l => owed c l + tallyAt (tcell c t) () (kamt (tk t))

/-- What is owed is owed for a token still to pay. -/
theorem owed_pos {c : Dev nD} {l : List T} {g : GSem nD τ sig} {u : Unit} (h : 0 < owed c l g u) : ∃ t ∈ l, g = tcell c t := by
  induction l with
  | nil => exact absurd h (Nat.lt_irrefl 0)
  | cons t l ih =>
    have h' : 0 < (owed c l + tallyAt (tcell c t) () (kamt (tk t))) g u := h
    rw [Pi.add_apply, Finsupp.add_apply, tallyAt_apply] at h'
    by_cases e : g = tcell c t ∧ u = ()
    · exact ⟨t, List.mem_cons_self, e.1⟩
    · rw [if_neg e, Nat.add_zero] at h'
      obtain ⟨t', ht', e'⟩ := ih h'
      exact ⟨t', List.mem_cons_of_mem _ ht', e'⟩

/-- A wait on a cell of level `n` is allowed while every token still to pay lies above `n`. -/
theorem mayWait_owed (c : Dev nD) (l : List T) (sm : SemLoc sig) (n : ℕ) (hs : ((dec sm).map klev).getD 0 ≤ n) (hl : ∀ t ∈ l, n < klev (tk t)) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact hs)
    (fun g u hg => by obtain ⟨t, ht, rfl⟩ := owed_pos hg; rw [lv_kcell]; exact hl t ht)

/-- Everything device `c` owes at launch, in the order it pays: ready and barrier signals in turn, the first exchange's
    copies, the gather's. -/
abbrev order : List T :=
  [.inl 0, .inr (.inl 2), .inl 1, .inr (.inl 1), .inl 2, .inr (.inl 0),
   .inr (.inr (1, 0, 0)), .inr (.inr (1, 0, 1)), .inr (.inr (1, 1, 0)), .inr (.inr (1, 1, 1)), .inr (.inr (1, 2, 0)), .inr (.inr (1, 2, 1)),
   .inr (.inr (3, 1, 0)), .inr (.inr (3, 0, 0)), .inr (.inr (3, 2, 0)), .inr (.inr (3, 1, 1)), .inr (.inr (3, 0, 1)), .inr (.inr (3, 2, 1))]

/-! ## What every step opens -/

/-- Every cell's invariant, under the names `K`, that it has reached its round, and the level facts. -/
def records (K : Dev nD × CK → ℕ) : sProp 𝕄 :=
  iprop((bigSep (Finset.univ : Finset (Dev nD × CK)) fun ck => iprop(cellInv ER (sched m) (K ck) (kcell ck) ∗ reached ER (kcell ck) 0)) ∗ levAts L lv)

instance records_persistent (K : Dev nD × CK → ℕ) : BI.Persistent (records m K) := by unfold records; infer_instance

/-- The records, read at one cell: -/
theorem record_at (K : Dev nD × CK → ℕ) (ck : Dev nD × CK) :
    (bigSep (Finset.univ : Finset (Dev nD × CK)) fun ck => (iprop(cellInv ER (sched m) (K ck) (kcell ck) ∗ reached ER (kcell ck) 0) : sProp 𝕄))
      ⊢ iprop(cellInv ER (sched m) (K ck) (kcell ck) ∗ reached ER (kcell ck) 0) := bigSep_elim (Finset.mem_univ ck)
/-- its invariant, -/
theorem inv_at (K : Dev nD × CK → ℕ) (ck : Dev nD × CK) : records m K ⊢ cellInv ER (sched m) (K ck) (kcell ck) := by
  unfold records
  iintro ⟨H, -⟩
  ihave H' := (record_at m K ck) $$ H
  icases H' with ⟨Hi, -⟩
  iexact Hi
/-- that it has reached its round, -/
theorem reached_at (K : Dev nD × CK → ℕ) (ck : Dev nD × CK) : records m K ⊢ reached ER (kcell ck) 0 := by
  unfold records
  iintro ⟨H, -⟩
  ihave H' := (record_at m K ck) $$ H
  icases H' with ⟨-, Hi⟩
  iexact Hi
/-- and the levels. -/
theorem lev_at (K : Dev nD × CK → ℕ) : records m K ⊢ levAts L lv := by
  unfold records
  iintro ⟨-, #H⟩
  iexact H

end Cert.KernelProof

end
-- ==== Proof.Steps.lean ====
/-
# One lemma per kind of effect

Each states what a device hands in at a signal, a wait, a copy, a load or a store of the kernel, and what it has after.
The addressed device, the memrefs and the semaphores are variables with equalities, so that a use names them as the
printed kernel does.
-/
module

public import proofs.«01_k».proof.Proof.Proto

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × CK → ℕ)

/-- The token of device `c` for its payment `t`. -/
def tokT (c : Dev nD) (t : T) : sProp 𝕄 := dutyTok ER (tcell c t) 0 (td t)
/-- Device `c` at round `n` of its cell `k`. -/
def posK (c : Dev nD) (k : CK) (n : ℕ) : sProp 𝕄 := atPos ER (kcell (c, k)) n ∅ 0
/-- The credit to wait for all of its cell `k`. -/
def credK (c : Dev nD) (k : CK) : sProp 𝕄 := cred (tallyAt (kcell (c, k)) () (kexp k))
/-- Device `c` still owes the payments of `l`. -/
def owesL (c : Dev nD) (l : List T) : sProp 𝕄 := iprop(∃ W : Waits sig Unit, owes (c : Thread nD τ) (owed c l) W)

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {k : PUnit → Prog (TpuEff nD τ sig (Elt F) Λ₀ .tc) α}

/-- A signal: one payment, with what it hands over. -/
theorem st_signal (c n : Dev nD) (t : T) (l : List T) (sem : Sem sig) (amt : ℤ) (hn : n = pe t c) (hs : SemLoc.reg sem = csem (tk t))
    (ha : amt = ((kamt (tk t) : ℕ) : ℤ)) :
    iprop(records m K ∗ owesL c (t :: l) ∗ tokT c t ∗ pay m (tk t) (pe t c) (td t))
      ⊢ iprop((owesL c l -∗ WP c (k ⟨⟩) Q) -∗ WP c (.op (.semSignal (n : Thread nD τ) sem amt) k) Q) := by
  subst hn ha
  unfold owesL tokT
  iintro ⟨#HR, ⟨%W, HO⟩, Ht, Hp⟩ Hk
  have h := Rounds.wp_signal (Γ := []) 𝒱₀ ER (sched m) (c : Thread nD τ) none (defs := defs₀ (F := F)) (dst := (pe t c : Thread nD τ)) (sem := sem) (r := 0) (d := td t) (k' := kamt (tk t)) (κ := K (pe t c, tk t))
    (k := k) (Q := Q) (by rw [hs]; exact (duties_eq m (pe t c) (tk t)).symm ▸ td_mem t) (by rw [hs]; exact amount_eq m (pe t c) (tk t) 0 _) () (owed c l)
    (O₀ := owed c (t :: l)) (by rw [hs]; rfl) (W := W) (Es := Set.univ)
  rw [hs, payload_eq] at h
  iapply h $$ [HO Ht Hp]
  · isplitr; · iapply (inv_at m K (pe t c, tk t)); iexact HR
    isplitl [HO]; · iexact HO
    isplitl [Ht]; · iexact Ht
    isplitl [Hp]; · iexact Hp
    iapply (reached_at m K (pe t c, tk t)); iexact HR
  iintro HO
  iapply Hk
  iexists W; iexact HO

/-- A wait for all of one of its cells: everything handed over comes. -/
theorem st_wait_core (c : Dev nD) (key : CK) (l : List T) (w : TpuEff nD τ sig (Elt F) Λ₀ .tc PUnit)
    (hw : ∀ R : PUnit → sProp 𝕄, wpE (defs₀ (F := F)) 𝒱₀ (c : Thread nD τ) none Set.univ w R = waitSpec (c : Thread nD τ) Set.univ (csem key) (kexp key) R)
    (hl : ∀ t ∈ l, klev key < klev (tk t)) :
    iprop(records m K ∗ credK c key ∗ owesL c l ∗ posK c key 0)
      ⊢ iprop(((owesL c l ∗ posK c key 1 ∗ rest m key c) -∗ WP c (k ⟨⟩) Q) -∗ WP c (.op w k) Q) := by
  unfold owesL credK posK
  iintro ⟨#HR, Hc, ⟨%W, HO⟩, Hat⟩ Hk
  iapply (Rounds.wp_wait_rest_token (Γ := []) 𝒱₀ ER (sched m) (c : Thread nD τ) none (κ := K (c, key)) hw (Set.mem_univ _) () (O := owed c l) (W := W) (R := 0) (m := 0) (T := ∅)
      (by rw [Nat.zero_add, expect_eq])) $$ [Hc HO Hat]
  · isplitr; · iapply (inv_at m K (c, key)); iexact HR
    isplitl [Hc]; · iexact Hc
    isplitl [HO]; · iexact HO
    isplitr
    · iapply (mayWait_owed c l (csem key) (klev key) (by rw [dec_csem]; exact Nat.le_refl _) hl)
      iapply (lev_at m K); iexact HR
    iexact Hat
  iintro ⟨HO, Hat, -, Hpay⟩
  iapply Hk
  isplitl [HO]; · iexists _; iexact HO
  isplitl [Hat]; · iexact Hat
  iapply (Entails.of_eq (rest_eq m c key)); iexact Hpay

/-- A wait on a counter, -/
theorem st_semWait (c : Dev nD) (key : CK) (l : List T) (sem : Sem sig) (amt : ℤ) (hs : SemLoc.reg sem = csem key) (ha : amt = ((kexp key : ℕ) : ℤ))
    (hl : ∀ t ∈ l, klev key < klev (tk t)) :
    iprop(records m K ∗ credK c key ∗ owesL c l ∗ posK c key 0)
      ⊢ iprop(((owesL c l ∗ posK c key 1 ∗ rest m key c) -∗ WP c (k ⟨⟩) Q) -∗ WP c (.op (.semWait sem amt) k) Q) := by
  subst ha
  exact st_wait_core m K c key l _ (fun R => by rw [← hs]; exact wpE_semWait_eq 𝒱₀ (c : Thread nD τ) none Set.univ R) hl

/-- and one on a copy. -/
theorem st_waitDma (c : Dev nD) (key : CK) (l : List T) (sem : DmaSem sig) {s s' : Shape} {e e' : EltTy} (src : Memref sig .tc .vmem s' e') (dst : Memref sig .tc .vmem s e)
    {hsrc : src.view.WordExact} {hdst : dst.view.WordExact} (hs : SemLoc.dma sem = csem key) (ha : dst.view.dmaCredit = kexp key)
    (hl : ∀ t ∈ l, klev key < klev (tk t)) :
    iprop(records m K ∗ credK c key ∗ owesL c l ∗ posK c key 0)
      ⊢ iprop(((owesL c l ∗ posK c key 1 ∗ rest m key c) -∗ WP c (k ⟨⟩) Q) -∗ WP c (.op (.waitDma2 sem src dst hsrc hdst) k) Q) :=
  st_wait_core m K c key l _ (fun R => by rw [← hs, ← ha]; exact wpE_waitDma2_eq 𝒱₀ (c : Thread nD τ) none Set.univ R) hl

/-- A copy to a peer: the source goes to the send cell's payload, the landed contents to the peer's receive cell's. -/
theorem st_send_core (c n : Dev nD) (ts tr : T) (l : List T) {s : Shape} {e : EltTy} (src dst : Memref sig .tc .vmem s e) (sS sem : SemLoc sig) (q : PosShare TreeShare)
    (fs : Buf (Elt F) (src.view.loc (c : Thread nD τ))) (fd : Buf (Elt F) (dst.view.loc (pe tr c : Thread nD τ)))
    {hsc : dst.view.ref.isScScratch = false} {hsrc : src.view.WordExact} {hdst : dst.view.WordExact}
    {hsem : DmaTarget.Typed .vmem sem (.remote (Dev.tc n : Thread nD τ) dst sS hsc)}
    (hn : n = pe tr c) (hc : pe ts c = c) (hsS : sS = csem (tk ts)) (hsm : sem = csem (tk tr))
    (hN : dst.view.amount sem = N) (hks : kamt (tk ts) = N) (hkr : kamt (tk tr) = N) (hke : kexp (tk ts) = N)
    (hp₁ : (src.view.loc (c : Thread nD τ) ↦[src.view.set]{q} fs : sProp 𝕄) ⊢ pay m (tk ts) c (td ts))
    (hp₂ : (dst.view.loc (pe tr c : Thread nD τ) ↦[dst.view.set]{fullShare} (dst.view.write (Elt F) fd (src.view.read (Elt F) fs) Finset.univ) : sProp 𝕄)
      ⊢ pay m (tk tr) (pe tr c) (td tr)) :
    iprop(records m K ∗ (src.view.loc (c : Thread nD τ) ↦[src.view.set]{q} fs) ∗ (dst.view.loc (pe tr c : Thread nD τ) ↦[dst.view.set]{fullShare} fd)
        ∗ owesL c (tr :: l) ∗ tokT c ts ∗ tokT c tr)
      ⊢ iprop(((credK c (tk ts) ∗ owesL c l) -∗ WP c (k ⟨⟩) Q)
        -∗ WP c (.op (.enqueueDma src (.remote (Dev.tc n : Thread nD τ) dst sS hsc) sem hsrc hdst hsem) k) Q) := by
  subst hn hsS hsm
  unfold owesL tokT credK
  rw [hke]
  iintro ⟨#HR, Hs, Hd, ⟨%W, HO⟩, Hts, Htr⟩ Hk
  have h := Rounds.wp_send_pointsTo (Γ := []) 𝒱₀ ER (sched m) (c : Thread nD τ) none (defs := defs₀ (F := F)) (c' := (pe tr c : Thread nD τ)) (src := src) (dst := dst) (sS := csem (tk ts)) (sem := csem (tk tr))
    (hsc := hsc) (hsrc := hsrc) (hdst := hdst) (hsem := hsem) (k := k) (Q := Q) (q := q) (fs := fs) (fd := fd)
    (κ₁ := K (c, tk ts)) (κ₂ := K (pe tr c, tk tr)) (r₁ := 0) (r₂ := 0) (d₁ := td ts) (d₂ := td tr)
    (by exact (duties_eq m c (tk ts)).symm ▸ td_mem ts) (by exact (duties_eq m (pe tr c) (tk tr)).symm ▸ td_mem tr)
    () () N hN (by exact (amount_eq m c (tk ts) 0 _).trans hks) (by exact (amount_eq m (pe tr c) (tk tr) 0 _).trans hkr)
    (O₀ := owed c (tr :: l)) (owed c l) (by rw [← hkr]; rfl) (W := W)
    (by exact hp₁.trans (Entails.of_eq (payload_eq m c (tk ts) 0 _).symm))
    (by exact hp₂.trans (Entails.of_eq (payload_eq m (pe tr c) (tk tr) 0 _).symm)) (Es := Set.univ)
  iapply h $$ [HO Hs Hd Hts Htr]
  · isplitr; · iapply (inv_at m K (c, tk ts)); iexact HR
    isplitr; · iapply (inv_at m K (pe tr c, tk tr)); iexact HR
    isplitl [Hs]; · iexact Hs
    isplitl [Hd]; · iexact Hd
    isplitl [HO]; · iexact HO
    isplitl [Hts]
    · iapply (Entails.of_eq (show (dutyTok ER (kcell (pe ts c, tk ts)) 0 (td ts) : sProp 𝕄) = dutyTok ER (kcell (c, tk ts)) 0 (td ts) by rw [hc])); iexact Hts
    isplitr; · iapply (reached_at m K (c, tk ts)); iexact HR
    isplitl [Htr]; · iexact Htr
    iapply (reached_at m K (pe tr c, tk tr)); iexact HR
  iintro ⟨Hc, HO⟩
  iapply Hk
  isplitl [Hc]; · iexact Hc
  iexists W; iexact HO

abbrev tz (s : Fin 3) (h : Fin 2) : T := .inr (.inr (0, s, h))
abbrev tZ (s : Fin 3) (h : Fin 2) : T := .inr (.inr (1, s, h))
abbrev tg (s : Fin 3) (h : Fin 2) : T := .inr (.inr (2, s, h))
abbrev tG (s : Fin 3) (h : Fin 2) : T := .inr (.inr (3, s, h))
abbrev kz (s : Fin 3) (h : Fin 2) : CK := .inr (.inr (0, s, h))
abbrev kZ (s : Fin 3) (h : Fin 2) : CK := .inr (.inr (1, s, h))
abbrev kg (s : Fin 3) (h : Fin 2) : CK := .inr (.inr (2, s, h))
abbrev kG (s : Fin 3) (h : Fin 2) : CK := .inr (.inr (3, s, h))

/-- A copy of the first exchange. -/
theorem st_zsend (c n : Dev nD) (s : Fin 3) (h : Fin 2) (l : List T) (src dst : Memref sig .tc .vmem S64x512 .bf16) (sS sem : SemLoc sig)
    {hsc : dst.view.ref.isScScratch = false} {hsrc : src.view.WordExact} {hdst : dst.view.WordExact}
    {hsem : DmaTarget.Typed .vmem sem (.remote (Dev.tc n : Thread nD τ) dst sS hsc)}
    (hsr : src = zsQ s h) (hds : dst = zrQ s h) (hn : n = zE s c) (hsS : sS = csem (kz s h)) (hsm : sem = csem (kZ s h)) :
    iprop(records m K ∗ owns (c : Thread nD τ) (zsP s h) fullShare (zC m c s h) ∗ anyM (zE s c) (zrP s h) fullShare
        ∗ owesL c (tZ s h :: l) ∗ tokT c (tz s h) ∗ tokT c (tZ s h))
      ⊢ iprop(((credK c (kz s h) ∗ owesL c l) -∗ WP c (k ⟨⟩) Q)
        -∗ WP c (.op (.enqueueDma src (.remote (Dev.tc n : Thread nD τ) dst sS hsc) sem hsrc hdst hsem) k) Q) := by
  subst hsr hds
  unfold owns anyM ownsSat
  iintro ⟨#HR, ⟨%fs, %hfs, Hs⟩, ⟨%fd, -, Hd⟩, HO, Ht, Ht'⟩ Hk
  iapply (st_send_core m K c n (tz s h) (tZ s h) l (zsQ s h) (zrQ s h) sS sem fullShare fs fd hn rfl hsS hsm (by rw [hsm]; rfl) rfl rfl rfl ?_ ?_) $$ [Hs Hd HO Ht Ht']
  · show _ ⊢ anyM c (zsP s h) fullShare
    refine Entails.trans (Entails.of_eq ?_) (ownsSat_of (c : Thread nD τ) (zsP s h) fullShare (f := fs) trivial)
    rw [View.set_reshape]
  · show _ ⊢ owns ((zE s c : Dev nD) : Thread nD τ) (zrP s h) fullShare (zL m (zE s c) s h)
    rw [owns_eq_ownsSat]
    refine Entails.trans (Entails.of_eq ?_) (ownsSat_of ((zE s c : Dev nD) : Thread nD τ) (zrP s h) fullShare
      (f := (zrQ s h).view.write (Elt F) fd ((zsQ s h).view.read (Elt F) fs) Finset.univ) ?_)
    · rw [View.set_reshape]; rfl
    · rw [sq_land (zsP s h) (zrP s h)]
      simp only [Equiv.apply_symm_apply]
      show (zsP s h).view.read (Elt F) fs = zC m (zp (3 - s.val) (zp (s.val + 1) c)) s h
      rw [zp_back]; exact hfs
  · isplitr; · iexact HR
    isplitl [Hs]; · rw [View.set_reshape]; iexact Hs
    isplitl [Hd]; · rw [View.set_reshape]; iexact Hd
    isplitl [HO]; · iexact HO
    isplitl [Ht] <;> iassumption
  iexact Hk

/-- A copy of the gather, out of a third of the source's share. -/
theorem st_gsend (c n : Dev nD) (s : Fin 3) (h : Fin 2) (l : List T) (src dst : Memref sig .tc .vmem S64x512 .bf16) (sS sem : SemLoc sig)
    {hsc : dst.view.ref.isScScratch = false} {hsrc : src.view.WordExact} {hdst : dst.view.WordExact}
    {hsem : DmaTarget.Typed .vmem sem (.remote (Dev.tc n : Thread nD τ) dst sS hsc)}
    (hsr : src = gsQ h) (hds : dst = grQ s h) (hn : n = qE s c) (hsS : sS = csem (kg s h)) (hsm : sem = csem (kG s h)) :
    iprop(records m K ∗ owns (c : Thread nD τ) (gsP h) (third s) (gC m c h) ∗ anyM (qE s c) (grP s h) fullShare
        ∗ owesL c (tG s h :: l) ∗ tokT c (tg s h) ∗ tokT c (tG s h))
      ⊢ iprop(((credK c (kg s h) ∗ owesL c l) -∗ WP c (k ⟨⟩) Q)
        -∗ WP c (.op (.enqueueDma src (.remote (Dev.tc n : Thread nD τ) dst sS hsc) sem hsrc hdst hsem) k) Q) := by
  subst hsr hds
  unfold owns anyM ownsSat
  iintro ⟨#HR, ⟨%fs, %hfs, Hs⟩, ⟨%fd, -, Hd⟩, HO, Ht, Ht'⟩ Hk
  iapply (st_send_core m K c n (tg s h) (tG s h) l (gsQ h) (grQ s h) sS sem (third s) fs fd hn rfl hsS hsm (by rw [hsm]; rfl) rfl rfl rfl ?_ ?_) $$ [Hs Hd HO Ht Ht']
  · show _ ⊢ anyM c (gsP h) (third s)
    refine Entails.trans (Entails.of_eq ?_) (ownsSat_of (c : Thread nD τ) (gsP h) (third s) (f := fs) trivial)
    rw [View.set_reshape]
  · show _ ⊢ owns ((qE s c : Dev nD) : Thread nD τ) (grP s h) fullShare (gL m (qE s c) s h)
    rw [owns_eq_ownsSat]
    refine Entails.trans (Entails.of_eq ?_) (ownsSat_of ((qE s c : Dev nD) : Thread nD τ) (grP s h) fullShare
      (f := (grQ s h).view.write (Elt F) fd ((gsQ h).view.read (Elt F) fs) Finset.univ) ?_)
    · rw [View.set_reshape]; rfl
    · rw [sq_land (gsP h) (grP s h)]
      show (fun j => (gsP h).view.read (Elt F) fs _) = relay (gC m (qp (3 - s.val) (qp (s.val + 1) c)) h)
      rw [qp_back, hfs]; rfl
  · isplitr; · iexact HR
    isplitl [Hs]; · rw [View.set_reshape]; iexact Hs
    isplitl [Hd]; · rw [View.set_reshape]; iexact Hd
    isplitl [HO]; · iexact HO
    isplitl [Ht] <;> iassumption
  iexact Hk

/-! ## Loads and stores -/

/-- A load through a rectangle of a memref whose slice there is owned. -/
theorem st_load (c : Dev nD) {s : Shape} {e : EltTy} (M : Memref sig .tc .vmem s e) (r : Rect s) (hst : ∀ a, r.stride a = 1) (q : PosShare TreeShare)
    (X : r.shape.Idx → Elt F e) {hl : M.view.LoadsAt r.toLoadRect} {k : (r.toLoadRect.shape.Idx → Elt F e) → Prog (TpuEff nD τ sig (Elt F) Λ₀ .tc) α} :
    (owns (c : Thread nD τ) (M.slice r hst) q X : sProp 𝕄)
      ⊢ iprop((owns (c : Thread nD τ) (M.slice r hst) q X -∗ WP c (k X) Q) -∗ WP c (.op (.load M r.toLoadRect hl) k) Q) := by
  unfold owns
  iintro ⟨%f, %hf, H⟩ Hk
  subst hf
  iapply (wp_load_rect 𝒱₀ (c : Thread nD τ) none Set.univ (m := M) (r := r) (Finset.Subset.refl _)) $$ H
  iintro H
  iapply Hk
  iexists f; isplitr; · (ipureintro; rfl)
  iexact H

/-- The same of a slice at contents not known. -/
theorem st_load_any (c : Dev nD) {s : Shape} {e : EltTy} (M : Memref sig .tc .vmem s e) (r : Rect s) (hst : ∀ a, r.stride a = 1) (q : PosShare TreeShare)
    {hl : M.view.LoadsAt r.toLoadRect} {k : (r.toLoadRect.shape.Idx → Elt F e) → Prog (TpuEff nD τ sig (Elt F) Λ₀ .tc) α} :
    (anyM c (M.slice r hst) q : sProp 𝕄)
      ⊢ iprop((∀ X, anyM c (M.slice r hst) q -∗ WP c (k X) Q) -∗ WP c (.op (.load M r.toLoadRect hl) k) Q) := by
  unfold anyM ownsSat
  iintro ⟨%f, -, H⟩ Hk
  iapply (wp_load_rect 𝒱₀ (c : Thread nD τ) none Set.univ (m := M) (r := r) (Finset.Subset.refl _)) $$ H
  iintro H
  iapply Hk
  iexists f; isplitr; · (ipureintro; trivial)
  iexact H

/-- A store through a rectangle of a memref whose slice there is owned. -/
theorem st_store (c : Dev nD) {s : Shape} {e : EltTy} (M : Memref sig .tc .vmem s e) (r : Rect s) (hst : ∀ a, r.stride a = 1)
    (w : r.shape.Idx → Elt F e) {hx : (M.access r).Stores Finset.univ} {hm : (Finset.univ : Finset r.shape.Idx) = Finset.univ ∨ ∀ a, r.stride a = 1} :
    (anyM c (M.slice r hst) fullShare : sProp 𝕄)
      ⊢ iprop((owns (c : Thread nD τ) (M.slice r hst) fullShare w -∗ WP c (k ⟨⟩) Q) -∗ WP c (.op (.store M r w Finset.univ hx hm) k) Q) := by
  unfold anyM ownsSat owns
  iintro ⟨%f, -, H⟩ Hk
  iapply (wp_store 𝒱₀ (c : Thread nD τ) none Set.univ (m := M) (r := r) (Mk := Finset.univ) (S := (M.slice r hst).view.set) (f := f) (Finset.Subset.refl _)) $$ H
  iintro H
  iapply Hk
  iexists ((M.access r).write (Elt F) f w Finset.univ); isplitr
  · ipureintro; exact View.read_write_univ f w
  iexact H

/-- A load through a rectangle of a memref whose buffer is held whole. -/
theorem st_load_in (c : Dev nD) {s : Shape} {e : EltTy} (M : Memref sig .tc .vmem s e) (r : LoadRect s) (f : Buf (Elt F) (M.view.loc (c : Thread nD τ)))
    {hl : M.view.LoadsAt r} {k : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ WP c (k (M.view.readAt (Elt F) r f)) Q) -∗ WP c (.op (.load M r hl) k) Q) :=
  wp_load 𝒱₀ (c : Thread nD τ) none Set.univ (Finset.subset_univ _)

/-- A store through a rectangle of a memref whose buffer is held whole. -/
theorem st_store_in (c : Dev nD) {s : Shape} {e : EltTy} (M : Memref sig .tc .vmem s e) (r : Rect s) (f : Buf (Elt F) (M.view.loc (c : Thread nD τ)))
    (w : r.shape.Idx → Elt F e) {hx : (M.access r).Stores Finset.univ} {hm : (Finset.univ : Finset r.shape.Idx) = Finset.univ ∨ ∀ a, r.stride a = 1} :
    (M.view.loc (c : Thread nD τ) ↦{fullShare} f : sProp 𝕄)
      ⊢ iprop(((M.view.loc (c : Thread nD τ) ↦{fullShare} ((M.access r).write (Elt F) f w Finset.univ)) -∗ WP c (k ⟨⟩) Q) -∗ WP c (.op (.store M r w Finset.univ hx hm) k) Q) :=
  wp_store 𝒱₀ (c : Thread nD τ) none Set.univ (m := M) (r := r) (Mk := Finset.univ) (S := Finset.univ) (f := f) (Finset.subset_univ _)

end Cert.KernelProof

end
-- ==== Proof.Cont.lean ====
/-
# Buffers and payloads as the body uses them

The devices the kernel addresses, the payloads written out, the buffers held whole and their stores, and how the scratch
buffers come apart into the pieces that travel and go together again.
-/
module

public import proofs.«01_k».proof.Proof.Steps

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Device ids the kernel computes -/

/-- The devices that the kernel's signals and copies name, in the program's order, are the payees of its tokens: the first ready signal's, -/
theorem dev1_pe (c : Dev nD) : (⟨k0_dev1 c, k0_dev1_lt c⟩ : Dev nD) = pe (.inl 0) c := by revert c; decide +kernel
/-- the first barrier signal's, -/
theorem dev2_pe (c : Dev nD) : (⟨k0_dev2 c, k0_dev2_lt c⟩ : Dev nD) = pe (.inr (.inl 2)) c := by revert c; decide +kernel
/-- the second ready signal's, -/
theorem dev3_pe (c : Dev nD) : (⟨k0_dev3 c, k0_dev3_lt c⟩ : Dev nD) = pe (.inl 1) c := by revert c; decide +kernel
/-- the second barrier signal's, -/
theorem dev4_pe (c : Dev nD) : (⟨k0_dev4 c, k0_dev4_lt c⟩ : Dev nD) = pe (.inr (.inl 1)) c := by revert c; decide +kernel
/-- the third ready signal's, -/
theorem dev5_pe (c : Dev nD) : (⟨k0_dev5 c, k0_dev5_lt c⟩ : Dev nD) = pe (.inl 2) c := by revert c; decide +kernel
/-- the third barrier signal's, -/
theorem dev6_pe (c : Dev nD) : (⟨k0_dev6 c, k0_dev6_lt c⟩ : Dev nD) = pe (.inr (.inl 0)) c := by revert c; decide +kernel
/-- the first exchange's copies', slot 0, first half, -/
theorem dev7_pe (c : Dev nD) : (⟨k0_dev7 c, k0_dev7_lt c⟩ : Dev nD) = zE 0 c := by revert c; decide +kernel
/-- second half, -/
theorem dev8_pe (c : Dev nD) : (⟨k0_dev8 c, k0_dev8_lt c⟩ : Dev nD) = zE 0 c := by revert c; decide +kernel
/-- slot 1, first half, -/
theorem dev9_pe (c : Dev nD) : (⟨k0_dev9 c, k0_dev9_lt c⟩ : Dev nD) = zE 1 c := by revert c; decide +kernel
/-- second half, -/
theorem dev10_pe (c : Dev nD) : (⟨k0_dev10 c, k0_dev10_lt c⟩ : Dev nD) = zE 1 c := by revert c; decide +kernel
/-- slot 2, first half, -/
theorem dev11_pe (c : Dev nD) : (⟨k0_dev11 c, k0_dev11_lt c⟩ : Dev nD) = zE 2 c := by revert c; decide +kernel
/-- second half, -/
theorem dev12_pe (c : Dev nD) : (⟨k0_dev12 c, k0_dev12_lt c⟩ : Dev nD) = zE 2 c := by revert c; decide +kernel
/-- the gather's copies', first half, slot 1, -/
theorem dev13_pe (c : Dev nD) : (⟨k0_dev13 c, k0_dev13_lt c⟩ : Dev nD) = qE 1 c := by revert c; decide +kernel
/-- slot 0, -/
theorem dev14_pe (c : Dev nD) : (⟨k0_dev14 c, k0_dev14_lt c⟩ : Dev nD) = qE 0 c := by revert c; decide +kernel
/-- slot 2, -/
theorem dev15_pe (c : Dev nD) : (⟨k0_dev15 c, k0_dev15_lt c⟩ : Dev nD) = qE 2 c := by revert c; decide +kernel
/-- second half, slot 1, -/
theorem dev16_pe (c : Dev nD) : (⟨k0_dev16 c, k0_dev16_lt c⟩ : Dev nD) = qE 1 c := by revert c; decide +kernel
/-- slot 0, -/
theorem dev17_pe (c : Dev nD) : (⟨k0_dev17 c, k0_dev17_lt c⟩ : Dev nD) = qE 0 c := by revert c; decide +kernel
/-- slot 2. -/
theorem dev18_pe (c : Dev nD) : (⟨k0_dev18 c, k0_dev18_lt c⟩ : Dev nD) = qE 2 c := by revert c; decide +kernel

variable (m : (ℓ : Loc nD τ sig) → Buf (Elt F) ℓ)

/-! ## Returning and sequencing -/

/-- A program that returns. -/
theorem st_ret (c : Dev nD) {α : Type} (a : α) (Q : α → sProp 𝕄) : Q a ⊢ WP c (.ret a) Q := by
  unfold WP; rw [wp_ret]
  iintro H
  imodintro
  iexact H

/-- A program followed by another. -/
theorem st_bind (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  unfold WP; rw [wp_bind]

/-- The region's barrier semaphore, as the kernel takes it. -/
abbrev barA : Sems sig S_ := SemArray.scalar (sig.barrier 0 rfl)

/-! ## Payloads by name -/

/-- What a ready signal hands over: both halves of the slot it announces, -/
theorem pay_ready (c : Dev nD) (s : Fin 3) :
    pay m (tk (.inl s)) (pe (.inl s) c) (td (.inl s)) = iprop(anyM c (zrP s 0) fullShare ∗ anyM c (zrP s 1) fullShare) := by
  show iprop(anyM (zE s ((zE s).symm c)) (zrP s 0) fullShare ∗ anyM (zE s ((zE s).symm c)) (zrP s 1) fullShare) = _
  rw [Equiv.apply_symm_apply]
/-- and what a barrier signal. -/
theorem pay_bar (c : Dev nD) (j : Fin 3) :
    pay m (tk (.inr (.inl j))) (pe (.inr (.inl j)) c) (td (.inr (.inl j))) = iprop(anyM c (grP j 0) fullShare ∗ anyM c (grP j 1) fullShare) := by
  show iprop(anyM (qE j ((qE j).symm c)) (grP j 0) fullShare ∗ anyM (qE j ((qE j).symm c)) (grP j 1) fullShare) = _
  rw [Equiv.apply_symm_apply]

/-- What a wait hands over: on a ready semaphore, the slot of the peer that the copies go to; -/
theorem rest_ready (c : Dev nD) (s : Fin 3) :
    rest m (.inl s) c = iprop(anyM (zE s c) (zrP s 0) fullShare ∗ anyM (zE s c) (zrP s 1) fullShare) := rfl
/-- on the barrier, the slots of the three peers; -/
theorem rest_bar (c : Dev nD) :
    rest m (.inr (.inl ())) c = iprop((anyM (qE 0 c) (grP 0 0) fullShare ∗ anyM (qE 0 c) (grP 0 1) fullShare)
      ∗ (anyM (qE 1 c) (grP 1 0) fullShare ∗ anyM (qE 1 c) (grP 1 1) fullShare)
      ∗ (anyM (qE 2 c) (grP 2 0) fullShare ∗ anyM (qE 2 c) (grP 2 1) fullShare)) := rfl
/-- on a send semaphore of the first exchange, the copy's source back; -/
theorem rest_z (c : Dev nD) (s : Fin 3) (h : Fin 2) : rest m (kz s h) c = anyM c (zsP s h) fullShare := rfl
/-- on a receive semaphore, the slot's half with what was sent; -/
theorem rest_Z (c : Dev nD) (s : Fin 3) (h : Fin 2) : rest m (kZ s h) c = owns (c : Thread nD τ) (zrP s h) fullShare (zL m c s h) := rfl
/-- on a send semaphore of the gather, a third of the copy's source back; -/
theorem rest_g (c : Dev nD) (s : Fin 3) (h : Fin 2) : rest m (kg s h) c = anyM c (gsP h) (third s) := rfl
/-- on a receive semaphore, the slot's half with the peer's rows. -/
theorem rest_G (c : Dev nD) (s : Fin 3) (h : Fin 2) : rest m (kG s h) c = owns (c : Thread nD τ) (grP s h) fullShare (gL m c s h) := rfl

/-! ## Buffers held whole -/

abbrev xPts (c : Dev nD) : sProp 𝕄 := xM.view.loc (c : Thread nD τ) ↦{fullShare} xs m c
abbrev gPts (c : Dev nD) : sProp 𝕄 := gM.view.loc (c : Thread nD τ) ↦{fullShare} gs m c
abbrev oPts (c : Dev nD) (f : (cc0_stg2_0 : Ref sig .tc).ty.Contents (Elt F)) : sProp 𝕄 := oM.view.loc (c : Thread nD τ) ↦{fullShare} f
abbrev zsPts (c : Dev nD) (f : (cc0_scratch0 : Ref sig .tc).ty.Contents (Elt F)) : sProp 𝕄 := zsM.view.loc (c : Thread nD τ) ↦{fullShare} f

/-- The scale row is loaded whole. -/
theorem read_g (f : (cc0_stg1_0 : Ref sig .tc).ty.Contents (Elt F)) :
    gM.view.readAt (Elt F) (Rect.unit (s := S1x512) ![0, 0] S1x512.size inb_S1x512_S1x512_0_0).toLoadRect f = f :=
  Memref.readAt_unit_zero (Elt F) cc0_stg1_0 (funext fun a => by fin_cases a <;> rfl) _ f

/-- The blocks that the kernel loads to send: slot 0, -/
theorem read_x1_0 (c : Dev nD) :
    xM.view.readAt (Elt F) (Rect.unit (s := S16x128x512) (k0_off1 c 0#32) S1x128x512.size (k0_off1_inb c 0)).toLoadRect (xs m c) = x1 m c 0 := rfl
/-- slot 1, -/
theorem read_x1_1 (c : Dev nD) :
    xM.view.readAt (Elt F) (Rect.unit (s := S16x128x512) (k0_off1 c 1#32) S1x128x512.size (k0_off1_inb c 1)).toLoadRect (xs m c) = x1 m c 1 := rfl
/-- and slot 2; -/
theorem read_x1_2 (c : Dev nD) :
    xM.view.readAt (Elt F) (Rect.unit (s := S16x128x512) (k0_off1 c 2#32) S1x128x512.size (k0_off1_inb c 2)).toLoadRect (xs m c) = x1 m c 2 := rfl
/-- and the block it keeps. -/
theorem read_xo (c : Dev nD) :
    xM.view.readAt (Elt F) (Rect.unit (s := S16x128x512) (k0_off2 c) S1x128x512.size (k0_off2_inb c)).toLoadRect (xs m c) = xo m c := rfl

/-! ### Stores into a buffer held whole -/

/-- A store into a buffer held whole writes its rectangle, -/
theorem put_emb (b : Ref sig .tc) (r : Rect b.ty.shape) (f : b.ty.Contents (Elt F)) (w : r.shape.Idx → Elt F b.ty.elt) (x : r.shape.Idx) :
    ((Memref.whole b).access r).write (Elt F) f w Finset.univ (r.emb x) = w x :=
  View.read_slice_write_emb (v := View.whole b) (Val := Elt F) r f w (Finset.mem_univ x)
/-- and nothing else. -/
theorem put_other (b : Ref sig .tc) (r : Rect b.ty.shape) (f : b.ty.Contents (Elt F)) (w : r.shape.Idx → Elt F b.ty.elt) (i : b.ty.shape.Idx)
    (h : i ∉ Finset.univ.map r.emb) :
    ((Memref.whole b).access r).write (Elt F) f w Finset.univ i = f i :=
  View.read_slice_write_of_not_mem (v := View.whole b) (Val := Elt F) r f w Finset.univ h

/-! ### The send buffer's three stores -/

/-- Every slot lies in the buffer. -/
theorem rz_inb (s : Fin 3) : ∀ a : Fin S3x2x64x512.rank, (![s.val, 0, 0, 0] : Fin 4 → ℕ) a + S1x2x64x512.size a ≤ S3x2x64x512.size a := by
  revert s; decide
/-- Slot `s` of a buffer of three slots. -/
abbrev rz (s : Fin 3) : Rect S3x2x64x512 := Rect.unit (s := S3x2x64x512) ![s.val, 0, 0, 0] S1x2x64x512.size (rz_inb s)
/-- The send buffer with slot `s` stored. -/
def zsPut (s : Fin 3) (f : (cc0_scratch0 : Ref sig .tc).ty.Contents (Elt F)) (w : Vec F S1x2x64x512 .bf16) : (cc0_scratch0 : Ref sig .tc).ty.Contents (Elt F) :=
  (zsM.access (rz s)).write (Elt F) f w Finset.univ

/-- The send buffer with slot `s` stored, at an entry. -/
theorem zsPut_apply (s : Fin 3) (f : S3x2x64x512.Idx → Elt F .bf16) (w : Vec F S1x2x64x512 .bf16) (i : S3x2x64x512.Idx) :
    (zsPut s f w : S3x2x64x512.Idx → Elt F .bf16) i = if (i 0).val = s.val then w (ValueIdx.ix4 (0 : Fin 1) (i 1) (i 2) (i 3)) else f i := by
  by_cases h : (i 0).val = s.val
  · rw [if_pos h]
    have e : (rz s).emb (ValueIdx.ix4 (0 : Fin 1) (i 1) (i 2) (i 3)) = i := by
      funext a; refine Fin.ext ?_; rw [Rect.emb_apply]
      match a with
      | ⟨0, _⟩ => show s.val + 1 * 0 = (i 0).val; rw [h, Nat.mul_zero, Nat.add_zero]
      | ⟨1, _⟩ => show 0 + 1 * (i 1).val = _; rw [Nat.zero_add, Nat.one_mul]; rfl
      | ⟨2, _⟩ => show 0 + 1 * (i 2).val = _; rw [Nat.zero_add, Nat.one_mul]; rfl
      | ⟨3, _⟩ => show 0 + 1 * (i 3).val = _; rw [Nat.zero_add, Nat.one_mul]; rfl
    have := put_emb (F := F) cc0_scratch0 (rz s) f w (ValueIdx.ix4 (0 : Fin 1) (i 1) (i 2) (i 3))
    rw [e] at this
    exact this
  · rw [if_neg h]
    refine put_other (F := F) cc0_scratch0 (rz s) f w i fun hm => h ?_
    obtain ⟨x, -, e⟩ := Finset.mem_map.mp hm
    have e0 := congrArg (fun i : S3x2x64x512.Idx => (i 0).val) e
    have x0 : (x 0).val < 1 := (x 0).isLt
    have f0 : s.val + 1 * (x 0).val = (i 0).val := e0
    omega

/-- After the three stores the send buffer is as named. -/
theorem zs_stored (c : Dev nD) (f : (cc0_scratch0 : Ref sig .tc).ty.Contents (Elt F)) :
    zsPut 2 (zsPut 1 (zsPut 0 f (slab m c 0)) (slab m c 1)) (slab m c 2) = zW m c := by
  refine funext fun (i : S3x2x64x512.Idx) => ?_
  rw [zsPut_apply, zsPut_apply, zsPut_apply]
  show _ = slab m c (i 0) _
  have h3 : ∀ a : Fin 3, a = 0 ∨ a = 1 ∨ a = 2 := by decide
  rcases h3 (i 0) with h | h | h <;> rw [h] <;> rfl

/-! ### The result's eight stores -/

/-- The rows a device makes itself, half `h`, -/
abbrev oR3 (c : Dev nD) (h : Fin 2) : Rect S512x512 :=
  Rect.unit (s := S512x512) (k0_off3 c (BitVec.ofNat 32 (64 * h.val))) S64x512.size (k0_off3_inb c h)
/-- and those of slot `s`. -/
abbrev oR4 (c : Dev nD) (s : Fin 3) (h : Fin 2) : Rect S512x512 :=
  Rect.unit (s := S512x512) (k0_off4 c (BitVec.ofNat 32 s.val) (BitVec.ofNat 32 (64 * h.val))) S64x512.size (k0_off4_inb c s h)
/-- The result with its own rows stored, -/
def oPut3 (c : Dev nD) (h : Fin 2) (f : (cc0_stg2_0 : Ref sig .tc).ty.Contents (Elt F)) (w : Vec F S64x512 .f32) : (cc0_stg2_0 : Ref sig .tc).ty.Contents (Elt F) :=
  (oM.access (oR3 c h)).write (Elt F) f w Finset.univ
/-- and with slot `s`'s. -/
def oPut4 (c : Dev nD) (s : Fin 3) (h : Fin 2) (f : (cc0_stg2_0 : Ref sig .tc).ty.Contents (Elt F)) (w : Vec F S64x512 .f32) : (cc0_stg2_0 : Ref sig .tc).ty.Contents (Elt F) :=
  (oM.access (oR4 c s h)).write (Elt F) f w Finset.univ

/-- A store of 64 rows from row `o` on, at an entry: inside it what is stored, outside it what was there. -/
theorem oPut_apply (o : ℕ) (off : Fin 2 → ℕ) (hoff : off = ![o, 0]) (inb : ∀ a : Fin S512x512.rank, off a + S64x512.size a ≤ S512x512.size a)
    (f : S512x512.Idx → Elt F .f32) (w : Vec F S64x512 .f32) (i : S512x512.Idx) (r : Fin 64) :
    ((i 0).val = o + r.val → ((oM.access (Rect.unit (s := S512x512) off S64x512.size inb)).write (Elt F) f w Finset.univ : S512x512.Idx → Elt F .f32) i = w (ValueIdx.ix2 r (i 1)))
      ∧ ((i 0).val < o ∨ o + 64 ≤ (i 0).val → ((oM.access (Rect.unit (s := S512x512) off S64x512.size inb)).write (Elt F) f w Finset.univ : S512x512.Idx → Elt F .f32) i = f i) := by
  subst hoff
  constructor
  · intro h
    have e : (Rect.unit (s := S512x512) ![o, 0] S64x512.size inb).emb (ValueIdx.ix2 r (i 1)) = i := by
      funext a; refine Fin.ext ?_; rw [Rect.emb_apply]
      match a with
      | ⟨0, _⟩ => show o + 1 * r.val = (i 0).val; rw [Nat.one_mul, h]
      | ⟨1, _⟩ => show 0 + 1 * (i 1).val = _; rw [Nat.zero_add, Nat.one_mul]; rfl
    have := put_emb (F := F) cc0_stg2_0 (Rect.unit (s := S512x512) ![o, 0] S64x512.size inb) f w (ValueIdx.ix2 r (i 1))
    rw [e] at this
    exact this
  · intro h
    refine put_other (F := F) cc0_stg2_0 (Rect.unit (s := S512x512) ![o, 0] S64x512.size inb) f w i fun hm => ?_
    obtain ⟨x, -, e⟩ := Finset.mem_map.mp hm
    have e0 := congrArg (fun i : S512x512.Idx => (i 0).val) e
    have x0 : (x 0).val < 64 := (x 0).isLt
    have f0 : o + 1 * (x 0).val = (i 0).val := e0
    omega

/-- The rows received in slot `s`, as stored in the result. -/
def outG (c : Dev nD) : Fin 3 → Fin 2 → Vec F S64x512 .f32
  | 0, 0 => k0_pay13 (gL m c 0 0)
  | 1, 0 => k0_pay14 (gL m c 1 0)
  | 2, 0 => k0_pay15 (gL m c 2 0)
  | 0, 1 => k0_pay16 (gL m c 0 1)
  | 1, 1 => k0_pay17 (gL m c 1 1)
  | 2, 1 => k0_pay18 (gL m c 2 1)
/-- The rows a device makes itself, as stored in the result. -/
def outM (c : Dev nD) : Fin 2 → Vec F S64x512 .f32
  | 0 => m0 m c
  | 1 => m1 m c

/-- The result on device `c`: row block `p` of 128 holds the device's own rows where `p` is its place among the gathering
    four, and otherwise those received in slot `(q + 3 - p) mod 4`. -/
def outAt (c : Dev nD) : S512x512.Idx → Elt F .f32 := fun i =>
  let h : Fin 2 := ⟨(i 0).val % 128 / 64, by omega⟩
  let r : Fin 64 := ⟨(i 0).val % 64, by omega⟩
  if (i 0).val / 128 = c.val / 4 then outM m c h (ValueIdx.ix2 r (i 1))
  else outG m c ⟨(c.val / 4 + 3 - (i 0).val / 128) % 4 % 3, by omega⟩ h (ValueIdx.ix2 r (i 1))

/-- All eight stores, in the kernel's order. -/
def oChain (c : Dev nD) (f : (cc0_stg2_0 : Ref sig .tc).ty.Contents (Elt F)) : (cc0_stg2_0 : Ref sig .tc).ty.Contents (Elt F) :=
  oPut4 c 2 1 (oPut4 c 1 1 (oPut4 c 0 1 (oPut4 c 2 0 (oPut4 c 1 0 (oPut4 c 0 0 (oPut3 c 1 (oPut3 c 0 f (m0 m c)) (m1 m c)) (outG m c 0 0)) (outG m c 1 0)) (outG m c 2 0))
    (outG m c 0 1)) (outG m c 1 1)) (outG m c 2 1)

/-- The result with half `h` of the device's own rows stored, at an entry, -/
theorem oPut3_apply (c : Dev nD) (h : Fin 2) (f : S512x512.Idx → Elt F .f32) (w : Vec F S64x512 .f32) (i : S512x512.Idx) :
    (oPut3 c h f w : S512x512.Idx → Elt F .f32) i
      = if (i 0).val / 128 = c.val / 4 ∧ (i 0).val % 128 / 64 = h.val then w (ValueIdx.ix2 ⟨(i 0).val % 64, by omega⟩ (i 1)) else f i := by
  have hc : c.val < 16 := c.isLt
  have hh := h.isLt
  have H := oPut_apply (256 * (c.val / 8) + 128 * ((c.val / 4) % 2) + 64 * h.val) _ (k0_off3_eq c h) (k0_off3_inb c h) f w i ⟨(i 0).val % 64, by omega⟩
  split
  · next e => exact H.1 (by show (i 0).val = _ + (i 0).val % 64; omega)
  · next e => exact H.2 (by omega)

/-- and with half `h` of slot `s`'s. -/
theorem oPut4_apply (c : Dev nD) (s : Fin 3) (h : Fin 2) (f : S512x512.Idx → Elt F .f32) (w : Vec F S64x512 .f32) (i : S512x512.Idx) :
    (oPut4 c s h f w : S512x512.Idx → Elt F .f32) i
      = if (i 0).val / 128 = (c.val / 4 + 3 - s.val) % 4 ∧ (i 0).val % 128 / 64 = h.val then w (ValueIdx.ix2 ⟨(i 0).val % 64, by omega⟩ (i 1)) else f i := by
  have hc : c.val < 16 := c.isLt
  have hh := h.isLt
  have hs := s.isLt
  have H := oPut_apply (128 * (((2 * (c.val / 8) + ((c.val / 4) % 2) + 3) - s.val) % 4) + 64 * h.val) _ (k0_off4_eq c s h) (k0_off4_inb c s h) f w i ⟨(i 0).val % 64, by omega⟩
  have hq : 2 * (c.val / 8) + ((c.val / 4) % 2) = c.val / 4 := by omega
  rw [hq] at H
  split
  · next e => exact H.1 (by show (i 0).val = _ + (i 0).val % 64; omega)
  · next e => exact H.2 (by omega)

/-- Which of the eight stores a row comes from. -/
theorem sel8 {α : Type} (A : Fin 3 → Fin 2 → α) (B : Fin 2 → α) (z : α) (q p hv : ℕ) (hq : q < 4) (hp : p < 4) (hh : hv < 2) :
    (if p = (q + 3 - 2) % 4 ∧ hv = 1 then A 2 1 else if p = (q + 3 - 1) % 4 ∧ hv = 1 then A 1 1 else if p = (q + 3 - 0) % 4 ∧ hv = 1 then A 0 1
      else if p = (q + 3 - 2) % 4 ∧ hv = 0 then A 2 0 else if p = (q + 3 - 1) % 4 ∧ hv = 0 then A 1 0 else if p = (q + 3 - 0) % 4 ∧ hv = 0 then A 0 0
      else if p = q ∧ hv = 1 then B 1 else if p = q ∧ hv = 0 then B 0 else z)
      = if p = q then B ⟨hv, hh⟩ else A ⟨(q + 3 - p) % 4 % 3, by omega⟩ ⟨hv, hh⟩ := by
  interval_cases q <;> interval_cases p <;> interval_cases hv <;> rfl

/-- After the eight stores the result is as named, whatever it held before. -/
theorem oChain_eq (c : Dev nD) (f : (cc0_stg2_0 : Ref sig .tc).ty.Contents (Elt F)) : oChain m c f = outAt m c := by
  refine funext fun (i : S512x512.Idx) => ?_
  have hc : c.val < 16 := c.isLt
  have hi : (i 0).val < 512 := (i 0).isLt
  unfold oChain
  rw [oPut4_apply, oPut4_apply, oPut4_apply, oPut4_apply, oPut4_apply, oPut4_apply, oPut3_apply, oPut3_apply]
  unfold outAt
  dsimp only
  have hp : (i 0).val / 128 < 4 := by omega
  have hq : c.val / 4 < 4 := by omega
  have hh : (i 0).val % 128 / 64 < 2 := by omega
  exact sel8 (fun s h => outG m c s h (ValueIdx.ix2 ⟨(i 0).val % 64, by omega⟩ (i 1))) (fun h => outM m c h (ValueIdx.ix2 ⟨(i 0).val % 64, by omega⟩ (i 1)))
    (f i) (c.val / 4) ((i 0).val / 128) ((i 0).val % 128 / 64) hq hp hh

/-! ## Splitting and rejoining the scratch buffers -/

/-- One of each half of each slot. -/
abbrev six (Φ : Fin 3 → Fin 2 → sProp 𝕄) : sProp 𝕄 := iprop(Φ 0 0 ∗ Φ 0 1 ∗ Φ 1 0 ∗ Φ 1 1 ∗ Φ 2 0 ∗ Φ 2 1)

/-- A resource for each half of each slot, one by one. -/
theorem six_eq (Φ : Fin 3 → Fin 2 → sProp 𝕄) : bigSep (Finset.univ : Finset (Fin 3 × Fin 2)) (fun t => Φ t.1 t.2) = six Φ := by
  exact bigSep_univ_eq_bigSepL [((0 : Fin 3), (0 : Fin 2)), (0, 1), (1, 0), (1, 1), (2, 0), (2, 1)] (by decide) (by decide) _

/-- The stored send buffer, by halves. -/
theorem zs_split (c : Dev nD) : zsPts c (zW m c) ⊢ six fun s h => owns (c : Thread nD τ) (zsP s h) fullShare (zC m c s h) := by
  rw [← six_eq]
  refine BI.Entails.trans (Entails.of_eq (owns_whole (c : Thread nD τ) cc0_scratch0 fullShare (zW m c)).symm) ?_
  exact owns_rects (c : Thread nD τ) zsM fullShare (fun t : Fin 3 × Fin 2 => r32 t.1 t.2) (fun _ _ => rfl) r32_disj r32_cov (zW m c)

section Any
variable (c : Dev nD) (b : Ref sig .tc)

/-- A buffer with some contents is its whole memref with some contents, -/
theorem any_of_whole : (iprop(∃ f, (c : Thread nD τ).loc b ↦{fullShare} f) : sProp 𝕄) ⊢ anyM c (Memref.whole b) fullShare := by
  iintro ⟨%f, H⟩
  iapply (ownsSat_intro (c : Thread nD τ) (Memref.whole b) fullShare (X := f) trivial)
  iapply (Entails.of_eq (owns_whole (c : Thread nD τ) b fullShare f).symm)
  iexact H
/-- and back. -/
theorem whole_of_any : (anyM c (Memref.whole b) fullShare : sProp 𝕄) ⊢ iprop(∃ f, (c : Thread nD τ).loc b ↦{fullShare} f) := by
  iintro H
  ihave H' := (ownsSat_elim (c : Thread nD τ) (Memref.whole b) fullShare _) $$ H
  icases H' with ⟨%X, -, H⟩
  iexists X
  iapply (Entails.of_eq (owns_whole (c : Thread nD τ) b fullShare X))
  iexact H
end Any

/-- A buffer of three slots at any contents, by halves, -/
theorem any_split (c : Dev nD) (M : Memref sig .tc .vmem S3x2x64x512 .bf16) :
    (anyM c M fullShare : sProp 𝕄) ⊢ six fun s h => anyM c (M.slice (r32 s h) (fun _ => rfl)) fullShare := by
  rw [← six_eq]
  exact (ownsSat_mono (c : Thread nD τ) M fullShare fun _ _ _ => trivial).trans
    (ownsSat_rects (c : Thread nD τ) M fullShare (fun t : Fin 3 × Fin 2 => r32 t.1 t.2) (fun _ _ => rfl) r32_disj r32_cov (Ψ := fun _ _ => True))
/-- and back. -/
theorem any_join (c : Dev nD) (M : Memref sig .tc .vmem S3x2x64x512 .bf16) :
    (six fun s h => anyM c (M.slice (r32 s h) (fun _ => rfl)) fullShare : sProp 𝕄) ⊢ anyM c M fullShare := by
  rw [← six_eq]
  exact (ownsSat_of_rects (c : Thread nD τ) M fullShare (fun t : Fin 3 × Fin 2 => r32 t.1 t.2) (fun _ _ => rfl) r32_disj r32_cov (Ψ := fun _ _ => True)).trans
    (ownsSat_mono (c : Thread nD τ) M fullShare fun _ _ => trivial)

/-- The buffer of two halves at any contents, by halves, -/
theorem gs_split (c : Dev nD) : (anyM c gsM fullShare : sProp 𝕄) ⊢ iprop(anyM c (gsP 0) fullShare ∗ anyM c (gsP 1) fullShare) := by
  refine ((ownsSat_mono (c : Thread nD τ) gsM fullShare fun _ _ _ => trivial).trans
    (ownsSat_rects (c : Thread nD τ) gsM fullShare (fun t : Fin 2 => r2 t) (fun _ _ => rfl) r2_disj r2_cov (Ψ := fun _ _ => True))).trans (Entails.of_eq ?_)
  exact bigSep_univ_eq_bigSepL [(0 : Fin 2), 1] (by decide) (by decide) _
/-- and back. -/
theorem gs_join (c : Dev nD) : (iprop(anyM c (gsP 0) fullShare ∗ anyM c (gsP 1) fullShare) : sProp 𝕄) ⊢ anyM c gsM fullShare := by
  have e : (iprop(anyM c (gsP 0) fullShare ∗ anyM c (gsP 1) fullShare) : sProp 𝕄) = bigSep Finset.univ fun t : Fin 2 => anyM c (gsP t) fullShare :=
    (bigSep_univ_eq_bigSepL [(0 : Fin 2), 1] (by decide) (by decide) fun t : Fin 2 => anyM c (gsP t) fullShare).symm
  rw [e]
  exact (ownsSat_of_rects (c : Thread nD τ) gsM fullShare (fun t : Fin 2 => r2 t) (fun _ _ => rfl) r2_disj r2_cov (Ψ := fun _ _ => True)).trans
    (ownsSat_mono (c : Thread nD τ) gsM fullShare fun _ _ => trivial)

/-- A half to send, by thirds of its share, -/
theorem g_thirds (c : Dev nD) (h : Fin 2) (X : Vec F S1x64x512 .bf16) :
    (owns (c : Thread nD τ) (gsP h) fullShare X : sProp 𝕄)
      ⊢ iprop(owns (c : Thread nD τ) (gsP h) (third 0) X ∗ owns (c : Thread nD τ) (gsP h) (third 1) X ∗ owns (c : Thread nD τ) (gsP h) (third 2) X) :=
  (ownsSat_thirds (c : Thread nD τ) (gsP h) fullShare (· = X)).1
/-- and back. -/
theorem g_unthirds (c : Dev nD) (h : Fin 2) :
    (iprop(anyM c (gsP h) (third 0) ∗ anyM c (gsP h) (third 1) ∗ anyM c (gsP h) (third 2)) : sProp 𝕄) ⊢ anyM c (gsP h) fullShare :=
  (ownsSat_thirds (c : Thread nD τ) (gsP h) fullShare fun _ => True).2

/-! ## Waiting -/

/-- What a device waits on one of its cells with. -/
abbrev wk (c : Dev nD) (k : CK) : sProp 𝕄 := iprop(credK c k ∗ posK c k 0)
/-- What a device makes one copy with: its tokens at both ends and its place at the send cell. -/
abbrev sk (c : Dev nD) (ts tr : T) : sProp 𝕄 := iprop(tokT c ts ∗ tokT c tr ∗ posK c (tk ts) 0)

/-- What a device still owes after its first `n` payments. -/
abbrev ol (c : Dev nD) (n : ℕ) : sProp 𝕄 := owesL c (order.drop n)
theorem ol_cons (c : Dev nD) (n : ℕ) (t : T) (h : order.drop n = t :: order.drop (n + 1)) : (ol c n : sProp 𝕄) ⊢ owesL c (t :: order.drop (n + 1)) :=
  Entails.of_eq (by rw [ol, h])

end Cert.KernelProof

end
-- ==== Proof.PartsA.lean ====
/-
# The body, first part: signals, the send buffer and the first exchange's copies
-/
module

public import proofs.«01_k».proof.Proof.Cont

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The first ready signal. -/
theorem part1 (c : Dev nD)  (Kt : (Σ' (d0 : Dev nD) (v2 : BitVec 32) (v5 : BitVec 32) (v8 : BitVec 32) (v10 : BitVec 32) (v11 : Sems sig S_) (v26 : BitVec 32) (c2_i32_15 : BitVec 32) (v27 : BitVec 32) (v32 : BitVec 32), BitVec 1) → sProp 𝕄) :
    iprop(records m K ∗ ol c 0 ∗ tokT c (.inl 0) ∗ anyM c (zrP 0 0) fullShare ∗ anyM c (zrP 0 1) fullShare ∗ (∀ r, ⌜r.1 = c ∧ r.2.2.2.2.2.1 = barA⌝ -∗ (ol c 1) -∗ Kt r))
      ⊢ WP c (k0_part1 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 ) Kt := by
  rw [k0_part1_eq_skeleton]; unfold k0_part1_skel
  simp only [semSignalWord, semWaitWord, Prog.lift, Prog.bind_op, Prog.bind_ret, Prog.pure_eq_ret, wp_deviceId]
  iintro ⟨#HR, HO, Tr0, zr00, zr01, Hk⟩
  iapply (st_signal m K c _ (.inl 0) (order.drop 1) _ _ (dev1_pe c) (by rfl) (by rfl)) $$ [HO Tr0 zr00 zr01]
  · isplitr; · iexact HR
    isplitl [HO]; · iapply (ol_cons c 0 (.inl 0) rfl); iexact HO
    isplitl [Tr0]; · iexact Tr0
    rw [pay_ready]
    isplitl [zr00] <;> iassumption
  iintro HO
  iapply (st_ret c _)
  iapply Hk $$ [] [HO]
  · ipureintro; exact ⟨rfl, rfl⟩
  iexact HO

/-- A barrier signal and the second ready signal. -/
theorem part2 (c : Dev nD) (v2 : BitVec 32) (v5 : BitVec 32) (v8 : BitVec 32) (v10 : BitVec 32) (v26 : BitVec 32) (c2_i32_15 : BitVec 32) (v27 : BitVec 32) (v32 : BitVec 32) (v33 : BitVec 1) (Kt : (Σ' (v65 : BitVec 32) (c2_i32_41 : BitVec 32) (v66 : BitVec 32), BitVec 1) → sProp 𝕄) :
    iprop(records m K ∗ ol c 1 ∗ tokT c (.inr (.inl 2)) ∗ anyM c (grP 2 0) fullShare ∗ anyM c (grP 2 1) fullShare ∗ tokT c (.inl 1) ∗ anyM c (zrP 1 0) fullShare ∗ anyM c (zrP 1 1) fullShare ∗ (∀ r, (ol c 3) -∗ Kt r))
      ⊢ WP c (k0_part2 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v8 v10 barA v26 c2_i32_15 v27 v32 v33) Kt := by
  rw [k0_part2_eq_skeleton]; unfold k0_part2_skel
  simp only [semSignalWord, semWaitWord, Prog.lift, Prog.bind_op, Prog.bind_ret, Prog.pure_eq_ret, wp_deviceId]
  iintro ⟨#HR, HO, Tb2, gr20, gr21, Tr1, zr10, zr11, Hk⟩
  iapply (st_signal m K c _ (.inr (.inl 2)) (order.drop 2) _ _ (dev2_pe c) (by rfl) (by rfl)) $$ [HO Tb2 gr20 gr21]
  · isplitr; · iexact HR
    isplitl [HO]; · iapply (ol_cons c 1 (.inr (.inl 2)) rfl); iexact HO
    isplitl [Tb2]; · iexact Tb2
    rw [pay_bar]
    isplitl [gr20] <;> iassumption
  iintro HO
  iapply (st_signal m K c _ (.inl 1) (order.drop 3) _ _ (dev3_pe c) (by rfl) (by rfl)) $$ [HO Tr1 zr10 zr11]
  · isplitr; · iexact HR
    isplitl [HO]; · iapply (ol_cons c 2 (.inl 1) rfl); iexact HO
    isplitl [Tr1]; · iexact Tr1
    rw [pay_ready]
    isplitl [zr10] <;> iassumption
  iintro HO
  iapply (st_ret c _)
  iapply Hk
  iexact HO

/-- A barrier signal and the third ready signal. -/
theorem part3 (c : Dev nD) (v2 : BitVec 32) (v5 : BitVec 32) (v8 : BitVec 32) (v10 : BitVec 32) (v65 : BitVec 32) (c2_i32_41 : BitVec 32) (v66 : BitVec 32) (v67 : BitVec 1) (Kt : (Σ' (v102 : BitVec 32), BitVec 32) → sProp 𝕄) :
    iprop(records m K ∗ ol c 3 ∗ tokT c (.inr (.inl 1)) ∗ anyM c (grP 1 0) fullShare ∗ anyM c (grP 1 1) fullShare ∗ tokT c (.inl 2) ∗ anyM c (zrP 2 0) fullShare ∗ anyM c (zrP 2 1) fullShare ∗ (∀ r, (ol c 5) -∗ Kt r))
      ⊢ WP c (k0_part3 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v8 v10 barA v65 c2_i32_41 v66 v67) Kt := by
  rw [k0_part3_eq_skeleton]; unfold k0_part3_skel
  simp only [semSignalWord, semWaitWord, Prog.lift, Prog.bind_op, Prog.bind_ret, Prog.pure_eq_ret, wp_deviceId]
  iintro ⟨#HR, HO, Tb1, gr10, gr11, Tr2, zr20, zr21, Hk⟩
  iapply (st_signal m K c _ (.inr (.inl 1)) (order.drop 4) _ _ (dev4_pe c) (by rfl) (by rfl)) $$ [HO Tb1 gr10 gr11]
  · isplitr; · iexact HR
    isplitl [HO]; · iapply (ol_cons c 3 (.inr (.inl 1)) rfl); iexact HO
    isplitl [Tb1]; · iexact Tb1
    rw [pay_bar]
    isplitl [gr10] <;> iassumption
  iintro HO
  iapply (st_signal m K c _ (.inl 2) (order.drop 5) _ _ (dev5_pe c) (by rfl) (by rfl)) $$ [HO Tr2 zr20 zr21]
  · isplitr; · iexact HR
    isplitl [HO]; · iapply (ol_cons c 4 (.inl 2) rfl); iexact HO
    isplitl [Tr2]; · iexact Tr2
    rw [pay_ready]
    isplitl [zr20] <;> iassumption
  iintro HO
  iapply (st_ret c _)
  iapply Hk
  iexact HO

/-- The last barrier signal, and the block to send in slot 0. -/
theorem part4 (c : Dev nD) (v8 : BitVec 32) (v10 : BitVec 32) (v102 : BitVec 32) (c1_i32_65 : BitVec 32) (Kt : (FVec F S2x64x512 .bf16) → sProp 𝕄) :
    iprop(records m K ∗ ol c 5 ∗ tokT c (.inr (.inl 0)) ∗ anyM c (grP 0 0) fullShare ∗ anyM c (grP 0 1) fullShare ∗ xPts m c ∗ ((ol c 6 ∗ xPts m c) -∗ Kt (k0_pay1 (x1 m c 0))))
      ⊢ WP c (k0_part4 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 barA v102 c1_i32_65) Kt := by
  rw [k0_part4_eq_skeleton]; unfold k0_part4_skel
  simp only [semSignalWord, semWaitWord, Prog.lift, Prog.bind_op, Prog.bind_ret, Prog.pure_eq_ret, wp_deviceId]
  iintro ⟨#HR, HO, Tb0, gr00, gr01, Hx, Hk⟩
  iapply (st_signal m K c _ (.inr (.inl 0)) (order.drop 6) _ _ (dev6_pe c) (by rfl) (by rfl)) $$ [HO Tb0 gr00 gr01]
  · isplitr; · iexact HR
    isplitl [HO]; · iapply (ol_cons c 5 (.inr (.inl 0)) rfl); iexact HO
    isplitl [Tb0]; · iexact Tb0
    rw [pay_bar]
    isplitl [gr00] <;> iassumption
  iintro HO
  iapply (st_load_in c xM _ (xs m c)) $$ [Hx]
  · iexact Hx
  rw [read_x1_0 m c]
  iintro Hx
  iapply (st_ret c _)
  iapply Hk
  isplitl [HO]; · iexact HO
  iexact Hx

/-- The send buffer's three slots, and the first peer ready. -/
theorem part5 (c : Dev nD) (v8 : BitVec 32) (v10 : BitVec 32) (f : (cc0_scratch0 : Ref sig .tc).ty.Contents (Elt F)) (Kt : (BitVec 32) → sProp 𝕄) :
    iprop(records m K ∗ ol c 6 ∗ zsPts c f ∗ xPts m c ∗ wk c (.inl 0) ∗ (∀ r, (ol c 6 ∗ zsPts c (zsPut 2 (zsPut 1 (zsPut 0 f (slab m c 0)) (slab m c 1)) (slab m c 2)) ∗ xPts m c ∗ posK c (.inl 0) 1 ∗ anyM (zE 0 c) (zrP 0 0) fullShare ∗ anyM (zE 0 c) (zrP 0 1) fullShare) -∗ Kt r))
      ⊢ WP c (k0_part5 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 (k0_pay1 (x1 m c 0))) Kt := by
  rw [k0_part5_eq_skeleton]; unfold k0_part5_skel
  simp only [semSignalWord, semWaitWord, Prog.lift, Prog.bind_op, Prog.bind_ret, Prog.pure_eq_ret, wp_deviceId]
  iintro ⟨#HR, HO, Hz, Hx, Wr0, Hk⟩
  iapply (st_load_in c zsM _ f) $$ [Hz]
  · iexact Hz
  iintro Hz
  iapply (st_store_in c zsM _ f _) $$ [Hz]
  · iexact Hz
  iintro Hz
  iapply (st_load_in c xM _ (xs m c)) $$ [Hx]
  · iexact Hx
  rw [read_x1_1 m c]
  iintro Hx
  iapply (st_load_in c zsM _ (zsPut 0 f (slab m c 0))) $$ [Hz]
  · iexact Hz
  iintro Hz
  iapply (st_store_in c zsM _ (zsPut 0 f (slab m c 0)) _) $$ [Hz]
  · iexact Hz
  iintro Hz
  iapply (st_load_in c xM _ (xs m c)) $$ [Hx]
  · iexact Hx
  rw [read_x1_2 m c]
  iintro Hx
  iapply (st_load_in c zsM _ (zsPut 1 (zsPut 0 f (slab m c 0)) (slab m c 1))) $$ [Hz]
  · iexact Hz
  iintro Hz
  iapply (st_store_in c zsM _ (zsPut 1 (zsPut 0 f (slab m c 0)) (slab m c 1)) _) $$ [Hz]
  · iexact Hz
  iintro Hz
  icases Wr0 with ⟨Tc, Tp⟩
  iapply (st_semWait m K c (.inl 0) (order.drop 6) _ _ (by rfl) (by rfl) (by decide)) $$ [HO Tc Tp]
  · isplitr; · iexact HR
    isplitl [Tc]; · iexact Tc
    isplitl [HO]; · iexact HO
    iexact Tp
  rw [rest_ready]
  iintro ⟨HO, Pr0, ⟨dz00, dz01⟩⟩
  iapply (st_ret c _)
  iapply Hk
  isplitl [HO]; · iexact HO
  isplitl [Hz]; · iexact Hz
  isplitl [Hx]; · iexact Hx
  isplitl [Pr0]; · iexact Pr0
  isplitl [dz00]; · iexact dz00
  iexact dz01

/-- A copy of the first exchange. -/
theorem part6 (c : Dev nD) (v2 : BitVec 32) (v5 : BitVec 32) (v168 : BitVec 32) (Kt : (BitVec 32) → sProp 𝕄) :
    iprop(records m K ∗ ol c 6 ∗ owns (c : Thread nD τ) (zsP 0 0) fullShare (zC m c 0 0) ∗ anyM (zE 0 c) (zrP 0 0) fullShare ∗ sk c (tz 0 0) (tZ 0 0) ∗ (∀ r, (ol c 7 ∗ wk c (kz 0 0)) -∗ Kt r))
      ⊢ WP c (k0_part6 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v168) Kt := by
  rw [k0_part6_eq_skeleton]; unfold k0_part6_skel
  simp only [semSignalWord, semWaitWord, Prog.lift, Prog.bind_op, Prog.bind_ret, Prog.pure_eq_ret, wp_deviceId]
  iintro ⟨#HR, HO, zc00, dz00, Sz00, Hk⟩
  icases Sz00 with ⟨Ta, Tb, Tp⟩
  iapply (st_zsend m K c _ 0 0 (order.drop 7) _ _ _ _ (by rfl) (by rfl) (dev7_pe c) (by rfl) (by rfl)) $$ [HO zc00 dz00 Ta Tb]
  · isplitr; · iexact HR
    isplitl [zc00]; · iexact zc00
    isplitl [dz00]; · iexact dz00
    isplitl [HO]; · iapply (ol_cons c 6 (tZ 0 0) rfl); iexact HO
    isplitl [Ta]; · iexact Ta
    iexact Tb
  iintro ⟨Tc, HO⟩
  ihave Wz00 : wk c (kz 0 0) $$ [Tc Tp]
  · isplitl [Tc]; · iexact Tc
    iexact Tp
  iapply (st_ret c _)
  iapply Hk
  isplitl [HO]; · iexact HO
  iexact Wz00

/-- Two copies, the second peer being ready. -/
theorem part7 (c : Dev nD) (v2 : BitVec 32) (v5 : BitVec 32) (v8 : BitVec 32) (Kt : (Σ' (v202 : BitVec 32) (v218 : BitVec 32), BitVec 32) → sProp 𝕄) :
    iprop(records m K ∗ ol c 7 ∗ owns (c : Thread nD τ) (zsP 0 1) fullShare (zC m c 0 1) ∗ anyM (zE 0 c) (zrP 0 1) fullShare ∗ sk c (tz 0 1) (tZ 0 1) ∗ wk c (.inl 1) ∗ owns (c : Thread nD τ) (zsP 1 0) fullShare (zC m c 1 0) ∗ sk c (tz 1 0) (tZ 1 0) ∗ (∀ r, (ol c 9 ∗ wk c (kz 0 1) ∗ posK c (.inl 1) 1 ∗ anyM (zE 1 c) (zrP 1 1) fullShare ∗ wk c (kz 1 0)) -∗ Kt r))
      ⊢ WP c (k0_part7 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v8) Kt := by
  rw [k0_part7_eq_skeleton]; unfold k0_part7_skel
  simp only [semSignalWord, semWaitWord, Prog.lift, Prog.bind_op, Prog.bind_ret, Prog.pure_eq_ret, wp_deviceId]
  iintro ⟨#HR, HO, zc01, dz01, Sz01, Wr1, zc10, Sz10, Hk⟩
  icases Sz01 with ⟨Ta, Tb, Tp⟩
  iapply (st_zsend m K c _ 0 1 (order.drop 8) _ _ _ _ (by rfl) (by rfl) (dev8_pe c) (by rfl) (by rfl)) $$ [HO zc01 dz01 Ta Tb]
  · isplitr; · iexact HR
    isplitl [zc01]; · iexact zc01
    isplitl [dz01]; · iexact dz01
    isplitl [HO]; · iapply (ol_cons c 7 (tZ 0 1) rfl); iexact HO
    isplitl [Ta]; · iexact Ta
    iexact Tb
  iintro ⟨Tc, HO⟩
  ihave Wz01 : wk c (kz 0 1) $$ [Tc Tp]
  · isplitl [Tc]; · iexact Tc
    iexact Tp
  icases Wr1 with ⟨Tc, Tp⟩
  iapply (st_semWait m K c (.inl 1) (order.drop 8) _ _ (by rfl) (by rfl) (by decide)) $$ [HO Tc Tp]
  · isplitr; · iexact HR
    isplitl [Tc]; · iexact Tc
    isplitl [HO]; · iexact HO
    iexact Tp
  rw [rest_ready]
  iintro ⟨HO, Pr1, ⟨dz10, dz11⟩⟩
  icases Sz10 with ⟨Ta, Tb, Tp⟩
  iapply (st_zsend m K c _ 1 0 (order.drop 9) _ _ _ _ (by rfl) (by rfl) (dev9_pe c) (by rfl) (by rfl)) $$ [HO zc10 dz10 Ta Tb]
  · isplitr; · iexact HR
    isplitl [zc10]; · iexact zc10
    isplitl [dz10]; · iexact dz10
    isplitl [HO]; · iapply (ol_cons c 8 (tZ 1 0) rfl); iexact HO
    isplitl [Ta]; · iexact Ta
    iexact Tb
  iintro ⟨Tc, HO⟩
  ihave Wz10 : wk c (kz 1 0) $$ [Tc Tp]
  · isplitl [Tc]; · iexact Tc
    iexact Tp
  iapply (st_ret c _)
  iapply Hk
  isplitl [HO]; · iexact HO
  isplitl [Wz01]; · iexact Wz01
  isplitl [Pr1]; · iexact Pr1
  isplitl [dz11]; · iexact dz11
  iexact Wz10

/-- A copy, and the third peer ready. -/
theorem part8 (c : Dev nD) (v2 : BitVec 32) (v5 : BitVec 32) (v8 : BitVec 32) (v202 : BitVec 32) (v218 : BitVec 32) (c4_i32_176 : BitVec 32) (Kt : (BitVec 32) → sProp 𝕄) :
    iprop(records m K ∗ ol c 9 ∗ owns (c : Thread nD τ) (zsP 1 1) fullShare (zC m c 1 1) ∗ anyM (zE 1 c) (zrP 1 1) fullShare ∗ sk c (tz 1 1) (tZ 1 1) ∗ wk c (.inl 2) ∗ (∀ r, (ol c 10 ∗ wk c (kz 1 1) ∗ posK c (.inl 2) 1 ∗ anyM (zE 2 c) (zrP 2 0) fullShare ∗ anyM (zE 2 c) (zrP 2 1) fullShare) -∗ Kt r))
      ⊢ WP c (k0_part8 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v8 v202 v218 c4_i32_176) Kt := by
  rw [k0_part8_eq_skeleton]; unfold k0_part8_skel
  simp only [semSignalWord, semWaitWord, Prog.lift, Prog.bind_op, Prog.bind_ret, Prog.pure_eq_ret, wp_deviceId]
  iintro ⟨#HR, HO, zc11, dz11, Sz11, Wr2, Hk⟩
  icases Sz11 with ⟨Ta, Tb, Tp⟩
  iapply (st_zsend m K c _ 1 1 (order.drop 10) _ _ _ _ (by rfl) (by rfl) (dev10_pe c) (by rfl) (by rfl)) $$ [HO zc11 dz11 Ta Tb]
  · isplitr; · iexact HR
    isplitl [zc11]; · iexact zc11
    isplitl [dz11]; · iexact dz11
    isplitl [HO]; · iapply (ol_cons c 9 (tZ 1 1) rfl); iexact HO
    isplitl [Ta]; · iexact Ta
    iexact Tb
  iintro ⟨Tc, HO⟩
  ihave Wz11 : wk c (kz 1 1) $$ [Tc Tp]
  · isplitl [Tc]; · iexact Tc
    iexact Tp
  icases Wr2 with ⟨Tc, Tp⟩
  iapply (st_semWait m K c (.inl 2) (order.drop 10) _ _ (by rfl) (by rfl) (by decide)) $$ [HO Tc Tp]
  · isplitr; · iexact HR
    isplitl [Tc]; · iexact Tc
    isplitl [HO]; · iexact HO
    iexact Tp
  rw [rest_ready]
  iintro ⟨HO, Pr2, ⟨dz20, dz21⟩⟩
  iapply (st_ret c _)
  iapply Hk
  isplitl [HO]; · iexact HO
  isplitl [Wz11]; · iexact Wz11
  isplitl [Pr2]; · iexact Pr2
  isplitl [dz20]; · iexact dz20
  iexact dz21

/-- The last copies of the first exchange, and the block kept. -/
theorem part9 (c : Dev nD) (v2 : BitVec 32) (v5 : BitVec 32) (v8 : BitVec 32) (v10 : BitVec 32) (v169 : BitVec 32) (v235 : BitVec 32) (Kt : (FVec F S64x512 .bf16) → sProp 𝕄) :
    iprop(records m K ∗ ol c 10 ∗ owns (c : Thread nD τ) (zsP 2 0) fullShare (zC m c 2 0) ∗ anyM (zE 2 c) (zrP 2 0) fullShare ∗ sk c (tz 2 0) (tZ 2 0) ∗ owns (c : Thread nD τ) (zsP 2 1) fullShare (zC m c 2 1) ∗ anyM (zE 2 c) (zrP 2 1) fullShare ∗ sk c (tz 2 1) (tZ 2 1) ∗ xPts m c ∗ ((ol c 12 ∗ wk c (kz 2 0) ∗ wk c (kz 2 1) ∗ xPts m c) -∗ Kt (k0_pay5 (xo m c))))
      ⊢ WP c (k0_part9 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v8 v10 v169 v235) Kt := by
  rw [k0_part9_eq_skeleton]; unfold k0_part9_skel
  simp only [semSignalWord, semWaitWord, Prog.lift, Prog.bind_op, Prog.bind_ret, Prog.pure_eq_ret, wp_deviceId]
  iintro ⟨#HR, HO, zc20, dz20, Sz20, zc21, dz21, Sz21, Hx, Hk⟩
  icases Sz20 with ⟨Ta, Tb, Tp⟩
  iapply (st_zsend m K c _ 2 0 (order.drop 11) _ _ _ _ (by rfl) (by rfl) (dev11_pe c) (by rfl) (by rfl)) $$ [HO zc20 dz20 Ta Tb]
  · isplitr; · iexact HR
    isplitl [zc20]; · iexact zc20
    isplitl [dz20]; · iexact dz20
    isplitl [HO]; · iapply (ol_cons c 10 (tZ 2 0) rfl); iexact HO
    isplitl [Ta]; · iexact Ta
    iexact Tb
  iintro ⟨Tc, HO⟩
  ihave Wz20 : wk c (kz 2 0) $$ [Tc Tp]
  · isplitl [Tc]; · iexact Tc
    iexact Tp
  icases Sz21 with ⟨Ta, Tb, Tp⟩
  iapply (st_zsend m K c _ 2 1 (order.drop 12) _ _ _ _ (by rfl) (by rfl) (dev12_pe c) (by rfl) (by rfl)) $$ [HO zc21 dz21 Ta Tb]
  · isplitr; · iexact HR
    isplitl [zc21]; · iexact zc21
    isplitl [dz21]; · iexact dz21
    isplitl [HO]; · iapply (ol_cons c 11 (tZ 2 1) rfl); iexact HO
    isplitl [Ta]; · iexact Ta
    iexact Tb
  iintro ⟨Tc, HO⟩
  ihave Wz21 : wk c (kz 2 1) $$ [Tc Tp]
  · isplitl [Tc]; · iexact Tc
    iexact Tp
  iapply (st_load_in c xM _ (xs m c)) $$ [Hx]
  · iexact Hx
  rw [read_xo m c]
  iintro Hx
  iapply (st_ret c _)
  iapply Hk
  isplitl [HO]; · iexact HO
  isplitl [Wz20]; · iexact Wz20
  isplitl [Wz21]; · iexact Wz21
  iexact Hx

end Cert.KernelProof

end
-- ==== Proof.PartsB.lean ====
/-
# The body, second part: the rows added and normalised, and the first half's gather copies
-/
module

public import proofs.«01_k».proof.Proof.Cont

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- Two received halves added. -/
theorem part10 (c : Dev nD) (v2 : BitVec 32) (v5 : BitVec 32) (v202 : BitVec 32) (v269 : FVec F S64x512 .bf16) (Kt : (FVec F S64x512 .f32) → sProp 𝕄) :
    iprop(records m K ∗ ol c 12 ∗ wk c (kZ 0 0) ∗ wk c (kZ 1 0) ∗ ((ol c 12 ∗ posK c (kZ 0 0) 1 ∗ owns (c : Thread nD τ) (zrP 0 0) fullShare (zL m c 0 0) ∗ posK c (kZ 1 0) 1 ∗ owns (c : Thread nD τ) (zrP 1 0) fullShare (zL m c 1 0)) -∗ Kt (k0_pay6 v269 (zL m c 0 0) (zL m c 1 0))))
      ⊢ WP c (k0_part10 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 v2 v5 v202 v269) Kt := by
  rw [k0_part10_eq_skeleton]; unfold k0_part10_skel
  simp only [semSignalWord, semWaitWord, Prog.lift, Prog.bind_op, Prog.bind_ret, Prog.pure_eq_ret, wp_deviceId]
  iintro ⟨#HR, HO, WZ00, WZ10, Hk⟩
  icases WZ00 with ⟨Tc, Tp⟩
  iapply (st_waitDma m K c (kZ 0 0) (order.drop 12) _ _ _ (by rfl) (by rfl) (by decide)) $$ [HO Tc Tp]
  · isplitr; · iexact HR
    isplitl [Tc]; · iexact Tc
    isplitl [HO]; · iexact HO
    iexact Tp
  rw [rest_Z]
  iintro ⟨HO, PZ00, zl00⟩
  iapply (st_load c zrM (r32 0 0) (fun _ => rfl) fullShare (zL m c 0 0)) $$ [zl00]
  · iexact zl00
  iintro zl00
  icases WZ10 with ⟨Tc, Tp⟩
  iapply (st_waitDma m K c (kZ 1 0) (order.drop 12) _ _ _ (by rfl) (by rfl) (by decide)) $$ [HO Tc Tp]
  · isplitr; · iexact HR
    isplitl [Tc]; · iexact Tc
    isplitl [HO]; · iexact HO
    iexact Tp
  rw [rest_Z]
  iintro ⟨HO, PZ10, zl10⟩
  iapply (st_load c zrM (r32 1 0) (fun _ => rfl) fullShare (zL m c 1 0)) $$ [zl10]
  · iexact zl10
  iintro zl10
  iapply (st_ret c _)
  iapply Hk
  isplitl [HO]; · iexact HO
  isplitl [PZ00]; · iexact PZ00
  isplitl [zl00]; · iexact zl00
  isplitl [PZ10]; · iexact PZ10
  iexact zl10

/-- The third added, and the rows normalised. -/
theorem part11 (c : Dev nD) (v2 : BitVec 32) (v5 : BitVec 32) (v10 : BitVec 32) (v235 : BitVec 32) (v302 : FVec F S64x512 .f32) (f : (cc0_stg2_0 : Ref sig .tc).ty.Contents (Elt F)) (Kt : (FVec F S64x512 .f32) → sProp 𝕄) :
    iprop(records m K ∗ ol c 12 ∗ wk c (kZ 2 0) ∗ gPts m c ∗ oPts c f ∗ ((ol c 12 ∗ posK c (kZ 2 0) 1 ∗ owns (c : Thread nD τ) (zrP 2 0) fullShare (zL m c 2 0) ∗ gPts m c ∗ oPts c f) -∗ Kt (k0_pay7 v302 (zL m c 2 0) (gs m c))))
      ⊢ WP c (k0_part11 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v10 v235 v302) Kt := by
  rw [k0_part11_eq_skeleton]; unfold k0_part11_skel
  simp only [semSignalWord, semWaitWord, Prog.lift, Prog.bind_op, Prog.bind_ret, Prog.pure_eq_ret, wp_deviceId]
  iintro ⟨#HR, HO, WZ20, Hg, Ho, Hk⟩
  icases WZ20 with ⟨Tc, Tp⟩
  iapply (st_waitDma m K c (kZ 2 0) (order.drop 12) _ _ _ (by rfl) (by rfl) (by decide)) $$ [HO Tc Tp]
  · isplitr; · iexact HR
    isplitl [Tc]; · iexact Tc
    isplitl [HO]; · iexact HO
    iexact Tp
  rw [rest_Z]
  iintro ⟨HO, PZ20, zl20⟩
  iapply (st_load c zrM (r32 2 0) (fun _ => rfl) fullShare (zL m c 2 0)) $$ [zl20]
  · iexact zl20
  iintro zl20
  iapply (st_load_in c gM _ (gs m c)) $$ [Hg]
  · iexact Hg
  rw [read_g]
  iintro Hg
  iapply (st_load_in c oM _ f) $$ [Ho]
  · iexact Ho
  iintro Ho
  iapply (st_ret c _)
  iapply Hk
  isplitl [HO]; · iexact HO
  isplitl [PZ20]; · iexact PZ20
  isplitl [zl20]; · iexact zl20
  isplitl [Hg]; · iexact Hg
  iexact Ho

/-- The first half of a device's rows stored, and its peers ready for the gather. -/
theorem part12 (c : Dev nD) (v8 : BitVec 32) (v10 : BitVec 32) (f : (cc0_stg2_0 : Ref sig .tc).ty.Contents (Elt F)) (Kt : (Σ' (v361 : BitVec 32) (v362 : BitVec 32) (v366 : BitVec 32), BitVec 32) → sProp 𝕄) :
    iprop(records m K ∗ ol c 12 ∗ oPts c f ∗ anyM c (gsP 0) fullShare ∗ wk c (.inr (.inl ())) ∗ (∀ r, (ol c 12 ∗ oPts c (oPut3 c 0 f (m0 m c)) ∗ owns (c : Thread nD τ) (gsP 0) fullShare (gC m c 0) ∗ posK c (.inr (.inl ())) 1 ∗ anyM (qE 0 c) (grP 0 0) fullShare ∗ anyM (qE 0 c) (grP 0 1) fullShare ∗ anyM (qE 1 c) (grP 1 0) fullShare ∗ anyM (qE 1 c) (grP 1 1) fullShare ∗ anyM (qE 2 c) (grP 2 0) fullShare ∗ anyM (qE 2 c) (grP 2 1) fullShare) -∗ Kt r))
      ⊢ WP c (k0_part12 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 barA (m0 m c)) Kt := by
  rw [k0_part12_eq_skeleton]; unfold k0_part12_skel
  simp only [semSignalWord, semWaitWord, Prog.lift, Prog.bind_op, Prog.bind_ret, Prog.pure_eq_ret, wp_deviceId]
  iintro ⟨#HR, HO, Ho, gs0, Wb, Hk⟩
  iapply (st_store_in c oM _ f _) $$ [Ho]
  · iexact Ho
  iintro Ho
  iapply (st_load_any c gsM (r2 0) (fun _ => rfl) fullShare) $$ [gs0]
  · iexact gs0
  iintro %X gs0
  iapply (st_store c gsM (r2 0) (fun _ => rfl) (gC m c 0)) $$ [gs0]
  · iexact gs0
  iintro gs0
  icases Wb with ⟨Tc, Tp⟩
  iapply (st_semWait m K c (.inr (.inl ())) (order.drop 12) _ _ (by rfl) (by rfl) (by decide)) $$ [HO Tc Tp]
  · isplitr; · iexact HR
    isplitl [Tc]; · iexact Tc
    isplitl [HO]; · iexact HO
    iexact Tp
  rw [rest_bar]
  iintro ⟨HO, Pb, ⟨⟨dg00, dg01⟩, ⟨dg10, dg11⟩, ⟨dg20, dg21⟩⟩⟩
  iapply (st_ret c _)
  iapply Hk
  isplitl [HO]; · iexact HO
  isplitl [Ho]; · iexact Ho
  isplitl [gs0]; · iexact gs0
  isplitl [Pb]; · iexact Pb
  isplitl [dg00]; · iexact dg00
  isplitl [dg01]; · iexact dg01
  isplitl [dg10]; · iexact dg10
  isplitl [dg11]; · iexact dg11
  isplitl [dg20]; · iexact dg20
  iexact dg21

/-- A copy of the gather. -/
theorem part13 (c : Dev nD) (v10 : BitVec 32) (v366 : BitVec 32) (v367 : BitVec 32) (Kt : (Σ' (v396 : BitVec 32) (v397 : BitVec 32), BitVec 32) → sProp 𝕄) :
    iprop(records m K ∗ ol c 12 ∗ owns (c : Thread nD τ) (gsP 0) (third 1) (gC m c 0) ∗ anyM (qE 1 c) (grP 1 0) fullShare ∗ sk c (tg 1 0) (tG 1 0) ∗ (∀ r, (ol c 13 ∗ wk c (kg 1 0)) -∗ Kt r))
      ⊢ WP c (k0_part13 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v10 v366 v367) Kt := by
  rw [k0_part13_eq_skeleton]; unfold k0_part13_skel
  simp only [semSignalWord, semWaitWord, Prog.lift, Prog.bind_op, Prog.bind_ret, Prog.pure_eq_ret, wp_deviceId]
  iintro ⟨#HR, HO, gc10, dg10, Sg10, Hk⟩
  icases Sg10 with ⟨Ta, Tb, Tp⟩
  iapply (st_gsend m K c _ 1 0 (order.drop 13) _ _ _ _ (by rfl) (by rfl) (dev13_pe c) (by rfl) (by rfl)) $$ [HO gc10 dg10 Ta Tb]
  · isplitr; · iexact HR
    isplitl [gc10]; · iexact gc10
    isplitl [dg10]; · iexact dg10
    isplitl [HO]; · iapply (ol_cons c 12 (tG 1 0) rfl); iexact HO
    isplitl [Ta]; · iexact Ta
    iexact Tb
  iintro ⟨Tc, HO⟩
  ihave Wg10 : wk c (kg 1 0) $$ [Tc Tp]
  · isplitl [Tc]; · iexact Tc
    iexact Tp
  iapply (st_ret c _)
  iapply Hk
  isplitl [HO]; · iexact HO
  iexact Wg10

/-- A copy of the gather. -/
theorem part14 (c : Dev nD) (v8 : BitVec 32) (v10 : BitVec 32) (v401 : BitVec 32) (Kt : (Σ' (v431 : BitVec 32) (v432 : BitVec 32) (v434 : BitVec 32), BitVec 32) → sProp 𝕄) :
    iprop(records m K ∗ ol c 13 ∗ owns (c : Thread nD τ) (gsP 0) (third 0) (gC m c 0) ∗ anyM (qE 0 c) (grP 0 0) fullShare ∗ sk c (tg 0 0) (tG 0 0) ∗ (∀ r, (ol c 14 ∗ wk c (kg 0 0)) -∗ Kt r))
      ⊢ WP c (k0_part14 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 v401) Kt := by
  rw [k0_part14_eq_skeleton]; unfold k0_part14_skel
  simp only [semSignalWord, semWaitWord, Prog.lift, Prog.bind_op, Prog.bind_ret, Prog.pure_eq_ret, wp_deviceId]
  iintro ⟨#HR, HO, gc00, dg00, Sg00, Hk⟩
  icases Sg00 with ⟨Ta, Tb, Tp⟩
  iapply (st_gsend m K c _ 0 0 (order.drop 14) _ _ _ _ (by rfl) (by rfl) (dev14_pe c) (by rfl) (by rfl)) $$ [HO gc00 dg00 Ta Tb]
  · isplitr; · iexact HR
    isplitl [gc00]; · iexact gc00
    isplitl [dg00]; · iexact dg00
    isplitl [HO]; · iapply (ol_cons c 13 (tG 0 0) rfl); iexact HO
    isplitl [Ta]; · iexact Ta
    iexact Tb
  iintro ⟨Tc, HO⟩
  ihave Wg00 : wk c (kg 0 0) $$ [Tc Tp]
  · isplitl [Tc]; · iexact Tc
    iexact Tp
  iapply (st_ret c _)
  iapply Hk
  isplitl [HO]; · iexact HO
  iexact Wg00

/-- A copy of the gather; the block kept; a received half. -/
theorem part15 (c : Dev nD) (v2 : BitVec 32) (v5 : BitVec 32) (v8 : BitVec 32) (v10 : BitVec 32) (v169 : BitVec 32) (v432 : BitVec 32) (v434 : BitVec 32) (c4_i32_365 : BitVec 32) (Kt : (FVec F S64x512 .bf16) → sProp 𝕄) :
    iprop(records m K ∗ ol c 14 ∗ owns (c : Thread nD τ) (gsP 0) (third 2) (gC m c 0) ∗ anyM (qE 2 c) (grP 2 0) fullShare ∗ sk c (tg 2 0) (tG 2 0) ∗ xPts m c ∗ wk c (kZ 0 1) ∗ ((ol c 15 ∗ wk c (kg 2 0) ∗ xPts m c ∗ posK c (kZ 0 1) 1 ∗ owns (c : Thread nD τ) (zrP 0 1) fullShare (zL m c 0 1)) -∗ Kt (k0_pay9 (xo m c))))
      ⊢ WP c (k0_part15 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v2 v5 v8 v10 v169 v432 v434 c4_i32_365) Kt := by
  rw [k0_part15_eq_skeleton]; unfold k0_part15_skel
  simp only [semSignalWord, semWaitWord, Prog.lift, Prog.bind_op, Prog.bind_ret, Prog.pure_eq_ret, wp_deviceId]
  iintro ⟨#HR, HO, gc20, dg20, Sg20, Hx, WZ01, Hk⟩
  icases Sg20 with ⟨Ta, Tb, Tp⟩
  iapply (st_gsend m K c _ 2 0 (order.drop 15) _ _ _ _ (by rfl) (by rfl) (dev15_pe c) (by rfl) (by rfl)) $$ [HO gc20 dg20 Ta Tb]
  · isplitr; · iexact HR
    isplitl [gc20]; · iexact gc20
    isplitl [dg20]; · iexact dg20
    isplitl [HO]; · iapply (ol_cons c 14 (tG 2 0) rfl); iexact HO
    isplitl [Ta]; · iexact Ta
    iexact Tb
  iintro ⟨Tc, HO⟩
  ihave Wg20 : wk c (kg 2 0) $$ [Tc Tp]
  · isplitl [Tc]; · iexact Tc
    iexact Tp
  iapply (st_load_in c xM _ (xs m c)) $$ [Hx]
  · iexact Hx
  rw [read_xo m c]
  iintro Hx
  icases WZ01 with ⟨Tc, Tp⟩
  iapply (st_waitDma m K c (kZ 0 1) (order.drop 15) _ _ _ (by rfl) (by rfl) (by decide)) $$ [HO Tc Tp]
  · isplitr; · iexact HR
    isplitl [Tc]; · iexact Tc
    isplitl [HO]; · iexact HO
    iexact Tp
  rw [rest_Z]
  iintro ⟨HO, PZ01, zl01⟩
  iapply (st_ret c _)
  iapply Hk
  isplitl [HO]; · iexact HO
  isplitl [Wg20]; · iexact Wg20
  isplitl [Hx]; · iexact Hx
  isplitl [PZ01]; · iexact PZ01
  iexact zl01

/-- Two received halves added. -/
theorem part16 (c : Dev nD) (v2 : BitVec 32) (v5 : BitVec 32) (v202 : BitVec 32) (v235 : BitVec 32) (v452 : FVec F S64x512 .bf16) (Kt : (FVec F S64x512 .f32) → sProp 𝕄) :
    iprop(records m K ∗ ol c 15 ∗ owns (c : Thread nD τ) (zrP 0 1) fullShare (zL m c 0 1) ∗ wk c (kZ 1 1) ∗ ((ol c 15 ∗ owns (c : Thread nD τ) (zrP 0 1) fullShare (zL m c 0 1) ∗ posK c (kZ 1 1) 1 ∗ owns (c : Thread nD τ) (zrP 1 1) fullShare (zL m c 1 1)) -∗ Kt (k0_pay10 v452 (zL m c 0 1) (zL m c 1 1))))
      ⊢ WP c (k0_part16 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 v2 v5 v202 v235 v452) Kt := by
  rw [k0_part16_eq_skeleton]; unfold k0_part16_skel
  simp only [semSignalWord, semWaitWord, Prog.lift, Prog.bind_op, Prog.bind_ret, Prog.pure_eq_ret, wp_deviceId]
  iintro ⟨#HR, HO, zl01, WZ11, Hk⟩
  iapply (st_load c zrM (r32 0 1) (fun _ => rfl) fullShare (zL m c 0 1)) $$ [zl01]
  · iexact zl01
  iintro zl01
  icases WZ11 with ⟨Tc, Tp⟩
  iapply (st_waitDma m K c (kZ 1 1) (order.drop 15) _ _ _ (by rfl) (by rfl) (by decide)) $$ [HO Tc Tp]
  · isplitr; · iexact HR
    isplitl [Tc]; · iexact Tc
    isplitl [HO]; · iexact HO
    iexact Tp
  rw [rest_Z]
  iintro ⟨HO, PZ11, zl11⟩
  iapply (st_load c zrM (r32 1 1) (fun _ => rfl) fullShare (zL m c 1 1)) $$ [zl11]
  · iexact zl11
  iintro zl11
  iapply (st_ret c _)
  iapply Hk
  isplitl [HO]; · iexact HO
  isplitl [zl01]; · iexact zl01
  isplitl [PZ11]; · iexact PZ11
  iexact zl11

/-- The second half of a device's rows normalised and stored. -/
theorem part17 (c : Dev nD) (v10 : BitVec 32) (f : (cc0_stg2_0 : Ref sig .tc).ty.Contents (Elt F)) (Kt : (Σ' (v526 : BitVec 32), BitVec 32) → sProp 𝕄) :
    iprop(records m K ∗ ol c 15 ∗ wk c (kZ 2 1) ∗ gPts m c ∗ oPts c f ∗ anyM c (gsP 1) fullShare ∗ (∀ r, (ol c 15 ∗ posK c (kZ 2 1) 1 ∗ owns (c : Thread nD τ) (zrP 2 1) fullShare (zL m c 2 1) ∗ gPts m c ∗ oPts c (oPut3 c 1 f (m1 m c)) ∗ owns (c : Thread nD τ) (gsP 1) fullShare (gC m c 1)) -∗ Kt r))
      ⊢ WP c (k0_part17 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v10 (k0_pay10 (k0_pay9 (xo m c)) (zL m c 0 1) (zL m c 1 1))) Kt := by
  rw [k0_part17_eq_skeleton]; unfold k0_part17_skel
  simp only [semSignalWord, semWaitWord, Prog.lift, Prog.bind_op, Prog.bind_ret, Prog.pure_eq_ret, wp_deviceId]
  iintro ⟨#HR, HO, WZ21, Hg, Ho, gs1, Hk⟩
  icases WZ21 with ⟨Tc, Tp⟩
  iapply (st_waitDma m K c (kZ 2 1) (order.drop 15) _ _ _ (by rfl) (by rfl) (by decide)) $$ [HO Tc Tp]
  · isplitr; · iexact HR
    isplitl [Tc]; · iexact Tc
    isplitl [HO]; · iexact HO
    iexact Tp
  rw [rest_Z]
  iintro ⟨HO, PZ21, zl21⟩
  iapply (st_load c zrM (r32 2 1) (fun _ => rfl) fullShare (zL m c 2 1)) $$ [zl21]
  · iexact zl21
  iintro zl21
  iapply (st_load_in c gM _ (gs m c)) $$ [Hg]
  · iexact Hg
  rw [read_g]
  iintro Hg
  iapply (st_load_in c oM _ f) $$ [Ho]
  · iexact Ho
  iintro Ho
  iapply (st_store_in c oM _ f _) $$ [Ho]
  · iexact Ho
  iintro Ho
  iapply (st_load_any c gsM (r2 1) (fun _ => rfl) fullShare) $$ [gs1]
  · iexact gs1
  iintro %X gs1
  iapply (st_store c gsM (r2 1) (fun _ => rfl) (gC m c 1)) $$ [gs1]
  · iexact gs1
  iintro gs1
  iapply (st_ret c _)
  iapply Hk
  isplitl [HO]; · iexact HO
  isplitl [PZ21]; · iexact PZ21
  isplitl [zl21]; · iexact zl21
  isplitl [Hg]; · iexact Hg
  isplitl [Ho]; · iexact Ho
  iexact gs1

end Cert.KernelProof

end
-- ==== Proof.PartsC.lean ====
/-
# The body, third part: the second half's gather copies and the rows received
-/
module

public import proofs.«01_k».proof.Proof.Cont

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- A copy of the gather. -/
theorem part18 (c : Dev nD) (v8 : BitVec 32) (v10 : BitVec 32) (v526 : BitVec 32) (c4_i32_446 : BitVec 32) (Kt : (Σ' (v544 : BitVec 32) (v545 : BitVec 32) (v560 : BitVec 32), BitVec 32) → sProp 𝕄) :
    iprop(records m K ∗ ol c 15 ∗ owns (c : Thread nD τ) (gsP 1) (third 1) (gC m c 1) ∗ anyM (qE 1 c) (grP 1 1) fullShare ∗ sk c (tg 1 1) (tG 1 1) ∗ (∀ r, (ol c 16 ∗ wk c (kg 1 1)) -∗ Kt r))
      ⊢ WP c (k0_part18 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 v526 c4_i32_446) Kt := by
  rw [k0_part18_eq_skeleton]; unfold k0_part18_skel
  simp only [semSignalWord, semWaitWord, Prog.lift, Prog.bind_op, Prog.bind_ret, Prog.pure_eq_ret, wp_deviceId]
  iintro ⟨#HR, HO, gc11, dg11, Sg11, Hk⟩
  icases Sg11 with ⟨Ta, Tb, Tp⟩
  iapply (st_gsend m K c _ 1 1 (order.drop 16) _ _ _ _ (by rfl) (by rfl) (dev16_pe c) (by rfl) (by rfl)) $$ [HO gc11 dg11 Ta Tb]
  · isplitr; · iexact HR
    isplitl [gc11]; · iexact gc11
    isplitl [dg11]; · iexact dg11
    isplitl [HO]; · iapply (ol_cons c 15 (tG 1 1) rfl); iexact HO
    isplitl [Ta]; · iexact Ta
    iexact Tb
  iintro ⟨Tc, HO⟩
  ihave Wg11 : wk c (kg 1 1) $$ [Tc Tp]
  · isplitl [Tc]; · iexact Tc
    iexact Tp
  iapply (st_ret c _)
  iapply Hk
  isplitl [HO]; · iexact HO
  iexact Wg11

/-- A copy of the gather. -/
theorem part19 (c : Dev nD) (v8 : BitVec 32) (v560 : BitVec 32) (c1_i32_471 : BitVec 32) (Kt : (Σ' (v579 : BitVec 32) (v580 : BitVec 32), BitVec 32) → sProp 𝕄) :
    iprop(records m K ∗ ol c 16 ∗ owns (c : Thread nD τ) (gsP 1) (third 0) (gC m c 1) ∗ anyM (qE 0 c) (grP 0 1) fullShare ∗ sk c (tg 0 1) (tG 0 1) ∗ (∀ r, (ol c 17 ∗ wk c (kg 0 1)) -∗ Kt r))
      ⊢ WP c (k0_part19 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v560 c1_i32_471) Kt := by
  rw [k0_part19_eq_skeleton]; unfold k0_part19_skel
  simp only [semSignalWord, semWaitWord, Prog.lift, Prog.bind_op, Prog.bind_ret, Prog.pure_eq_ret, wp_deviceId]
  iintro ⟨#HR, HO, gc01, dg01, Sg01, Hk⟩
  icases Sg01 with ⟨Ta, Tb, Tp⟩
  iapply (st_gsend m K c _ 0 1 (order.drop 17) _ _ _ _ (by rfl) (by rfl) (dev17_pe c) (by rfl) (by rfl)) $$ [HO gc01 dg01 Ta Tb]
  · isplitr; · iexact HR
    isplitl [gc01]; · iexact gc01
    isplitl [dg01]; · iexact dg01
    isplitl [HO]; · iapply (ol_cons c 16 (tG 0 1) rfl); iexact HO
    isplitl [Ta]; · iexact Ta
    iexact Tb
  iintro ⟨Tc, HO⟩
  ihave Wg01 : wk c (kg 0 1) $$ [Tc Tp]
  · isplitl [Tc]; · iexact Tc
    iexact Tp
  iapply (st_ret c _)
  iapply Hk
  isplitl [HO]; · iexact HO
  iexact Wg01

/-- The last copy of the gather, and the rows received in slot 0 stored. -/
theorem part21 (c : Dev nD) (v8 : BitVec 32) (v10 : BitVec 32) (v396 : BitVec 32) (v397 : BitVec 32) (f : (cc0_stg2_0 : Ref sig .tc).ty.Contents (Elt F)) (Kt : (BitVec 32) → sProp 𝕄) :
    iprop(records m K ∗ ol c 17 ∗ owns (c : Thread nD τ) (gsP 1) (third 2) (gC m c 1) ∗ anyM (qE 2 c) (grP 2 1) fullShare ∗ sk c (tg 2 1) (tG 2 1) ∗ wk c (kG 0 0) ∗ oPts c f ∗ (∀ r, (ol c 18 ∗ wk c (kg 2 1) ∗ posK c (kG 0 0) 1 ∗ owns (c : Thread nD τ) (grP 0 0) fullShare (gL m c 0 0) ∗ oPts c (oPut4 c 0 0 f (outG m c 0 0))) -∗ Kt r))
      ⊢ WP c (k0_part21 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 v396 v397) Kt := by
  rw [k0_part21_eq_skeleton]; unfold k0_part21_skel
  simp only [semSignalWord, semWaitWord, Prog.lift, Prog.bind_op, Prog.bind_ret, Prog.pure_eq_ret, wp_deviceId]
  iintro ⟨#HR, HO, gc21, dg21, Sg21, WG00, Ho, Hk⟩
  icases Sg21 with ⟨Ta, Tb, Tp⟩
  iapply (st_gsend m K c _ 2 1 (order.drop 18) _ _ _ _ (by rfl) (by rfl) (dev18_pe c) (by rfl) (by rfl)) $$ [HO gc21 dg21 Ta Tb]
  · isplitr; · iexact HR
    isplitl [gc21]; · iexact gc21
    isplitl [dg21]; · iexact dg21
    isplitl [HO]; · iapply (ol_cons c 17 (tG 2 1) rfl); iexact HO
    isplitl [Ta]; · iexact Ta
    iexact Tb
  iintro ⟨Tc, HO⟩
  ihave Wg21 : wk c (kg 2 1) $$ [Tc Tp]
  · isplitl [Tc]; · iexact Tc
    iexact Tp
  icases WG00 with ⟨Tc, Tp⟩
  iapply (st_waitDma m K c (kG 0 0) (order.drop 18) _ _ _ (by rfl) (by rfl) (by decide)) $$ [HO Tc Tp]
  · isplitr; · iexact HR
    isplitl [Tc]; · iexact Tc
    isplitl [HO]; · iexact HO
    iexact Tp
  rw [rest_G]
  iintro ⟨HO, PG00, gl00⟩
  iapply (st_load c grM (r32 0 0) (fun _ => rfl) fullShare (gL m c 0 0)) $$ [gl00]
  · iexact gl00
  iintro gl00
  iapply (st_load_in c oM _ f) $$ [Ho]
  · iexact Ho
  iintro Ho
  iapply (st_store_in c oM _ f _) $$ [Ho]
  · iexact Ho
  iintro Ho
  iapply (st_ret c _)
  iapply Hk
  isplitl [HO]; · iexact HO
  isplitl [Wg21]; · iexact Wg21
  isplitl [PG00]; · iexact PG00
  isplitl [gl00]; · iexact gl00
  iexact Ho

/-- The rows received in slot 1 stored. -/
theorem part22 (c : Dev nD) (v8 : BitVec 32) (v10 : BitVec 32) (v361 : BitVec 32) (v362 : BitVec 32) (v431 : BitVec 32) (v432 : BitVec 32) (c8_i32_555 : BitVec 32) (f : (cc0_stg2_0 : Ref sig .tc).ty.Contents (Elt F)) (Kt : (PUnit) → sProp 𝕄) :
    iprop(records m K ∗ ol c 18 ∗ wk c (kG 1 0) ∗ oPts c f ∗ (∀ r, (ol c 18 ∗ posK c (kG 1 0) 1 ∗ owns (c : Thread nD τ) (grP 1 0) fullShare (gL m c 1 0) ∗ oPts c (oPut4 c 1 0 f (outG m c 1 0))) -∗ Kt r))
      ⊢ WP c (k0_part22 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 v361 v362 v431 v432 c8_i32_555) Kt := by
  rw [k0_part22_eq_skeleton]; unfold k0_part22_skel
  simp only [semSignalWord, semWaitWord, Prog.lift, Prog.bind_op, Prog.bind_ret, Prog.pure_eq_ret, wp_deviceId]
  iintro ⟨#HR, HO, WG10, Ho, Hk⟩
  icases WG10 with ⟨Tc, Tp⟩
  iapply (st_waitDma m K c (kG 1 0) (order.drop 18) _ _ _ (by rfl) (by rfl) (by decide)) $$ [HO Tc Tp]
  · isplitr; · iexact HR
    isplitl [Tc]; · iexact Tc
    isplitl [HO]; · iexact HO
    iexact Tp
  rw [rest_G]
  iintro ⟨HO, PG10, gl10⟩
  iapply (st_load c grM (r32 1 0) (fun _ => rfl) fullShare (gL m c 1 0)) $$ [gl10]
  · iexact gl10
  iintro gl10
  iapply (st_load_in c oM _ f) $$ [Ho]
  · iexact Ho
  iintro Ho
  iapply (st_store_in c oM _ f _) $$ [Ho]
  · iexact Ho
  iintro Ho
  iapply (st_ret c _)
  iapply Hk
  isplitl [HO]; · iexact HO
  isplitl [PG10]; · iexact PG10
  isplitl [gl10]; · iexact gl10
  iexact Ho

/-- The rows received in slot 2 stored. -/
theorem part23 (c : Dev nD) (v8 : BitVec 32) (v10 : BitVec 32) (v579 : BitVec 32) (v580 : BitVec 32) (f : (cc0_stg2_0 : Ref sig .tc).ty.Contents (Elt F)) (Kt : (PUnit) → sProp 𝕄) :
    iprop(records m K ∗ ol c 18 ∗ wk c (kG 2 0) ∗ oPts c f ∗ (∀ r, (ol c 18 ∗ posK c (kG 2 0) 1 ∗ owns (c : Thread nD τ) (grP 2 0) fullShare (gL m c 2 0) ∗ oPts c (oPut4 c 2 0 f (outG m c 2 0))) -∗ Kt r))
      ⊢ WP c (k0_part23 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 v579 v580) Kt := by
  rw [k0_part23_eq_skeleton]; unfold k0_part23_skel
  simp only [semSignalWord, semWaitWord, Prog.lift, Prog.bind_op, Prog.bind_ret, Prog.pure_eq_ret, wp_deviceId]
  iintro ⟨#HR, HO, WG20, Ho, Hk⟩
  icases WG20 with ⟨Tc, Tp⟩
  iapply (st_waitDma m K c (kG 2 0) (order.drop 18) _ _ _ (by rfl) (by rfl) (by decide)) $$ [HO Tc Tp]
  · isplitr; · iexact HR
    isplitl [Tc]; · iexact Tc
    isplitl [HO]; · iexact HO
    iexact Tp
  rw [rest_G]
  iintro ⟨HO, PG20, gl20⟩
  iapply (st_load c grM (r32 2 0) (fun _ => rfl) fullShare (gL m c 2 0)) $$ [gl20]
  · iexact gl20
  iintro gl20
  iapply (st_load_in c oM _ f) $$ [Ho]
  · iexact Ho
  iintro Ho
  iapply (st_store_in c oM _ f _) $$ [Ho]
  · iexact Ho
  iintro Ho
  iapply (st_ret c _)
  iapply Hk
  isplitl [HO]; · iexact HO
  isplitl [PG20]; · iexact PG20
  isplitl [gl20]; · iexact gl20
  iexact Ho

/-- The second half in slot 0 stored. -/
theorem part24 (c : Dev nD) (v8 : BitVec 32) (v10 : BitVec 32) (v544 : BitVec 32) (v545 : BitVec 32) (f : (cc0_stg2_0 : Ref sig .tc).ty.Contents (Elt F)) (Kt : (Σ' (v736 : BitVec 32), BitVec 32) → sProp 𝕄) :
    iprop(records m K ∗ ol c 18 ∗ wk c (kG 0 1) ∗ oPts c f ∗ wk c (kG 1 1) ∗ (∀ r, (ol c 18 ∗ posK c (kG 0 1) 1 ∗ owns (c : Thread nD τ) (grP 0 1) fullShare (gL m c 0 1) ∗ oPts c (oPut4 c 0 1 f (outG m c 0 1)) ∗ posK c (kG 1 1) 1 ∗ owns (c : Thread nD τ) (grP 1 1) fullShare (gL m c 1 1)) -∗ Kt r))
      ⊢ WP c (k0_part24 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 v544 v545) Kt := by
  rw [k0_part24_eq_skeleton]; unfold k0_part24_skel
  simp only [semSignalWord, semWaitWord, Prog.lift, Prog.bind_op, Prog.bind_ret, Prog.pure_eq_ret, wp_deviceId]
  iintro ⟨#HR, HO, WG01, Ho, WG11, Hk⟩
  icases WG01 with ⟨Tc, Tp⟩
  iapply (st_waitDma m K c (kG 0 1) (order.drop 18) _ _ _ (by rfl) (by rfl) (by decide)) $$ [HO Tc Tp]
  · isplitr; · iexact HR
    isplitl [Tc]; · iexact Tc
    isplitl [HO]; · iexact HO
    iexact Tp
  rw [rest_G]
  iintro ⟨HO, PG01, gl01⟩
  iapply (st_load c grM (r32 0 1) (fun _ => rfl) fullShare (gL m c 0 1)) $$ [gl01]
  · iexact gl01
  iintro gl01
  iapply (st_load_in c oM _ f) $$ [Ho]
  · iexact Ho
  iintro Ho
  iapply (st_store_in c oM _ f _) $$ [Ho]
  · iexact Ho
  iintro Ho
  icases WG11 with ⟨Tc, Tp⟩
  iapply (st_waitDma m K c (kG 1 1) (order.drop 18) _ _ _ (by rfl) (by rfl) (by decide)) $$ [HO Tc Tp]
  · isplitr; · iexact HR
    isplitl [Tc]; · iexact Tc
    isplitl [HO]; · iexact HO
    iexact Tp
  rw [rest_G]
  iintro ⟨HO, PG11, gl11⟩
  iapply (st_ret c _)
  iapply Hk
  isplitl [HO]; · iexact HO
  isplitl [PG01]; · iexact PG01
  isplitl [gl01]; · iexact gl01
  isplitl [Ho]; · iexact Ho
  isplitl [PG11]; · iexact PG11
  iexact gl11

/-- The second half in slot 1 stored, that in slot 2 read. -/
theorem part25 (c : Dev nD) (v8 : BitVec 32) (v10 : BitVec 32) (v614 : BitVec 32) (v615 : BitVec 32) (v736 : BitVec 32) (c4_i32_644 : BitVec 32) (f : (cc0_stg2_0 : Ref sig .tc).ty.Contents (Elt F)) (Kt : (Σ' (v760 : BitVec 32) (v763 : FVec F S64x512 .f32), BitVec 32) → sProp 𝕄) :
    iprop(records m K ∗ ol c 18 ∗ owns (c : Thread nD τ) (grP 1 1) fullShare (gL m c 1 1) ∗ oPts c f ∗ wk c (kG 2 1) ∗ (∀ r, ⌜r.2.1 = outG m c 2 1⌝ -∗ (ol c 18 ∗ owns (c : Thread nD τ) (grP 1 1) fullShare (gL m c 1 1) ∗ oPts c (oPut4 c 1 1 f (outG m c 1 1)) ∗ posK c (kG 2 1) 1 ∗ owns (c : Thread nD τ) (grP 2 1) fullShare (gL m c 2 1)) -∗ Kt r))
      ⊢ WP c (k0_part25 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v8 v10 v614 v615 v736 c4_i32_644) Kt := by
  rw [k0_part25_eq_skeleton]; unfold k0_part25_skel
  simp only [semSignalWord, semWaitWord, Prog.lift, Prog.bind_op, Prog.bind_ret, Prog.pure_eq_ret, wp_deviceId]
  iintro ⟨#HR, HO, gl11, Ho, WG21, Hk⟩
  iapply (st_load c grM (r32 1 1) (fun _ => rfl) fullShare (gL m c 1 1)) $$ [gl11]
  · iexact gl11
  iintro gl11
  iapply (st_load_in c oM _ f) $$ [Ho]
  · iexact Ho
  iintro Ho
  iapply (st_store_in c oM _ f _) $$ [Ho]
  · iexact Ho
  iintro Ho
  icases WG21 with ⟨Tc, Tp⟩
  iapply (st_waitDma m K c (kG 2 1) (order.drop 18) _ _ _ (by rfl) (by rfl) (by decide)) $$ [HO Tc Tp]
  · isplitr; · iexact HR
    isplitl [Tc]; · iexact Tc
    isplitl [HO]; · iexact HO
    iexact Tp
  rw [rest_G]
  iintro ⟨HO, PG21, gl21⟩
  iapply (st_load c grM (r32 2 1) (fun _ => rfl) fullShare (gL m c 2 1)) $$ [gl21]
  · iexact gl21
  iintro gl21
  iapply (st_ret c _)
  iapply Hk $$ [] [HO gl11 Ho PG21 gl21]
  · ipureintro; rfl
  isplitl [HO]; · iexact HO
  isplitl [gl11]; · iexact gl11
  isplitl [Ho]; · iexact Ho
  isplitl [PG21]; · iexact PG21
  iexact gl21

end Cert.KernelProof

end
-- ==== Proof.PartsD.lean ====
/-
# The body, last part: the copies' ends
-/
module

public import proofs.«01_k».proof.Proof.Cont

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The second half in slot 2 stored; sends complete. -/
theorem part26 (c : Dev nD) (v760 : BitVec 32) (c128_i32_675 : BitVec 32) (f : (cc0_stg2_0 : Ref sig .tc).ty.Contents (Elt F)) (Kt : (PUnit) → sProp 𝕄) :
    iprop(records m K ∗ ol c 18 ∗ oPts c f ∗ wk c (kz 0 0) ∗ wk c (kz 0 1) ∗ (∀ r, (ol c 18 ∗ oPts c (oPut4 c 2 1 f (outG m c 2 1)) ∗ posK c (kz 0 0) 1 ∗ anyM c (zsP 0 0) fullShare ∗ posK c (kz 0 1) 1 ∗ anyM c (zsP 0 1) fullShare) -∗ Kt r))
      ⊢ WP c (k0_part26 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 c v760 (outG m c 2 1) c128_i32_675) Kt := by
  rw [k0_part26_eq_skeleton]; unfold k0_part26_skel
  simp only [semSignalWord, semWaitWord, Prog.lift, Prog.bind_op, Prog.bind_ret, Prog.pure_eq_ret, wp_deviceId]
  iintro ⟨#HR, HO, Ho, Wz00, Wz01, Hk⟩
  iapply (st_load_in c oM _ f) $$ [Ho]
  · iexact Ho
  iintro Ho
  iapply (st_store_in c oM _ f _) $$ [Ho]
  · iexact Ho
  iintro Ho
  icases Wz00 with ⟨Tc, Tp⟩
  iapply (st_waitDma m K c (kz 0 0) (order.drop 18) _ _ _ (by rfl) (by rfl) (by decide)) $$ [HO Tc Tp]
  · isplitr; · iexact HR
    isplitl [Tc]; · iexact Tc
    isplitl [HO]; · iexact HO
    iexact Tp
  rw [rest_z]
  iintro ⟨HO, Pz00, az00⟩
  icases Wz01 with ⟨Tc, Tp⟩
  iapply (st_waitDma m K c (kz 0 1) (order.drop 18) _ _ _ (by rfl) (by rfl) (by decide)) $$ [HO Tc Tp]
  · isplitr; · iexact HR
    isplitl [Tc]; · iexact Tc
    isplitl [HO]; · iexact HO
    iexact Tp
  rw [rest_z]
  iintro ⟨HO, Pz01, az01⟩
  iapply (st_ret c _)
  iapply Hk
  isplitl [HO]; · iexact HO
  isplitl [Ho]; · iexact Ho
  isplitl [Pz00]; · iexact Pz00
  isplitl [az00]; · iexact az00
  isplitl [Pz01]; · iexact Pz01
  iexact az01

/-- Sends complete. -/
theorem part27 (c : Dev nD)  (Kt : (PUnit) → sProp 𝕄) :
    iprop(records m K ∗ ol c 18 ∗ wk c (kz 1 0) ∗ wk c (kz 1 1) ∗ wk c (kz 2 0) ∗ (∀ r, (ol c 18 ∗ posK c (kz 1 0) 1 ∗ anyM c (zsP 1 0) fullShare ∗ posK c (kz 1 1) 1 ∗ anyM c (zsP 1 1) fullShare ∗ posK c (kz 2 0) 1 ∗ anyM c (zsP 2 0) fullShare) -∗ Kt r))
      ⊢ WP c (k0_part27 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 ) Kt := by
  rw [k0_part27_eq_skeleton]; unfold k0_part27_skel
  simp only [semSignalWord, semWaitWord, Prog.lift, Prog.bind_op, Prog.bind_ret, Prog.pure_eq_ret, wp_deviceId]
  iintro ⟨#HR, HO, Wz10, Wz11, Wz20, Hk⟩
  icases Wz10 with ⟨Tc, Tp⟩
  iapply (st_waitDma m K c (kz 1 0) (order.drop 18) _ _ _ (by rfl) (by rfl) (by decide)) $$ [HO Tc Tp]
  · isplitr; · iexact HR
    isplitl [Tc]; · iexact Tc
    isplitl [HO]; · iexact HO
    iexact Tp
  rw [rest_z]
  iintro ⟨HO, Pz10, az10⟩
  icases Wz11 with ⟨Tc, Tp⟩
  iapply (st_waitDma m K c (kz 1 1) (order.drop 18) _ _ _ (by rfl) (by rfl) (by decide)) $$ [HO Tc Tp]
  · isplitr; · iexact HR
    isplitl [Tc]; · iexact Tc
    isplitl [HO]; · iexact HO
    iexact Tp
  rw [rest_z]
  iintro ⟨HO, Pz11, az11⟩
  icases Wz20 with ⟨Tc, Tp⟩
  iapply (st_waitDma m K c (kz 2 0) (order.drop 18) _ _ _ (by rfl) (by rfl) (by decide)) $$ [HO Tc Tp]
  · isplitr; · iexact HR
    isplitl [Tc]; · iexact Tc
    isplitl [HO]; · iexact HO
    iexact Tp
  rw [rest_z]
  iintro ⟨HO, Pz20, az20⟩
  iapply (st_ret c _)
  iapply Hk
  isplitl [HO]; · iexact HO
  isplitl [Pz10]; · iexact Pz10
  isplitl [az10]; · iexact az10
  isplitl [Pz11]; · iexact Pz11
  isplitl [az11]; · iexact az11
  isplitl [Pz20]; · iexact Pz20
  iexact az20

/-- Sends complete. -/
theorem part28 (c : Dev nD)  (Kt : (PUnit) → sProp 𝕄) :
    iprop(records m K ∗ ol c 18 ∗ wk c (kz 2 1) ∗ wk c (kg 1 0) ∗ wk c (kg 0 0) ∗ (∀ r, (ol c 18 ∗ posK c (kz 2 1) 1 ∗ anyM c (zsP 2 1) fullShare ∗ posK c (kg 1 0) 1 ∗ anyM c (gsP 0) (third 1) ∗ posK c (kg 0 0) 1 ∗ anyM c (gsP 0) (third 0)) -∗ Kt r))
      ⊢ WP c (k0_part28 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 ) Kt := by
  rw [k0_part28_eq_skeleton]; unfold k0_part28_skel
  simp only [semSignalWord, semWaitWord, Prog.lift, Prog.bind_op, Prog.bind_ret, Prog.pure_eq_ret, wp_deviceId]
  iintro ⟨#HR, HO, Wz21, Wg10, Wg00, Hk⟩
  icases Wz21 with ⟨Tc, Tp⟩
  iapply (st_waitDma m K c (kz 2 1) (order.drop 18) _ _ _ (by rfl) (by rfl) (by decide)) $$ [HO Tc Tp]
  · isplitr; · iexact HR
    isplitl [Tc]; · iexact Tc
    isplitl [HO]; · iexact HO
    iexact Tp
  rw [rest_z]
  iintro ⟨HO, Pz21, az21⟩
  icases Wg10 with ⟨Tc, Tp⟩
  iapply (st_waitDma m K c (kg 1 0) (order.drop 18) _ _ _ (by rfl) (by rfl) (by decide)) $$ [HO Tc Tp]
  · isplitr; · iexact HR
    isplitl [Tc]; · iexact Tc
    isplitl [HO]; · iexact HO
    iexact Tp
  rw [rest_g]
  iintro ⟨HO, Pg10, ag10⟩
  icases Wg00 with ⟨Tc, Tp⟩
  iapply (st_waitDma m K c (kg 0 0) (order.drop 18) _ _ _ (by rfl) (by rfl) (by decide)) $$ [HO Tc Tp]
  · isplitr; · iexact HR
    isplitl [Tc]; · iexact Tc
    isplitl [HO]; · iexact HO
    iexact Tp
  rw [rest_g]
  iintro ⟨HO, Pg00, ag00⟩
  iapply (st_ret c _)
  iapply Hk
  isplitl [HO]; · iexact HO
  isplitl [Pz21]; · iexact Pz21
  isplitl [az21]; · iexact az21
  isplitl [Pg10]; · iexact Pg10
  isplitl [ag10]; · iexact ag10
  isplitl [Pg00]; · iexact Pg00
  iexact ag00

/-- Sends complete. -/
theorem part29 (c : Dev nD)  (Kt : (PUnit) → sProp 𝕄) :
    iprop(records m K ∗ ol c 18 ∗ wk c (kg 2 0) ∗ wk c (kg 1 1) ∗ wk c (kg 0 1) ∗ (∀ r, (ol c 18 ∗ posK c (kg 2 0) 1 ∗ anyM c (gsP 0) (third 2) ∗ posK c (kg 1 1) 1 ∗ anyM c (gsP 1) (third 1) ∗ posK c (kg 0 1) 1 ∗ anyM c (gsP 1) (third 0)) -∗ Kt r))
      ⊢ WP c (k0_part29 xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8 ) Kt := by
  rw [k0_part29_eq_skeleton]; unfold k0_part29_skel
  simp only [semSignalWord, semWaitWord, Prog.lift, Prog.bind_op, Prog.bind_ret, Prog.pure_eq_ret, wp_deviceId]
  iintro ⟨#HR, HO, Wg20, Wg11, Wg01, Hk⟩
  icases Wg20 with ⟨Tc, Tp⟩
  iapply (st_waitDma m K c (kg 2 0) (order.drop 18) _ _ _ (by rfl) (by rfl) (by decide)) $$ [HO Tc Tp]
  · isplitr; · iexact HR
    isplitl [Tc]; · iexact Tc
    isplitl [HO]; · iexact HO
    iexact Tp
  rw [rest_g]
  iintro ⟨HO, Pg20, ag20⟩
  icases Wg11 with ⟨Tc, Tp⟩
  iapply (st_waitDma m K c (kg 1 1) (order.drop 18) _ _ _ (by rfl) (by rfl) (by decide)) $$ [HO Tc Tp]
  · isplitr; · iexact HR
    isplitl [Tc]; · iexact Tc
    isplitl [HO]; · iexact HO
    iexact Tp
  rw [rest_g]
  iintro ⟨HO, Pg11, ag11⟩
  icases Wg01 with ⟨Tc, Tp⟩
  iapply (st_waitDma m K c (kg 0 1) (order.drop 18) _ _ _ (by rfl) (by rfl) (by decide)) $$ [HO Tc Tp]
  · isplitr; · iexact HR
    isplitl [Tc]; · iexact Tc
    isplitl [HO]; · iexact HO
    iexact Tp
  rw [rest_g]
  iintro ⟨HO, Pg01, ag01⟩
  iapply (st_ret c _)
  iapply Hk
  isplitl [HO]; · iexact HO
  isplitl [Pg20]; · iexact Pg20
  isplitl [ag20]; · iexact ag20
  isplitl [Pg11]; · iexact Pg11
  isplitl [ag11]; · iexact ag11
  isplitl [Pg01]; · iexact Pg01
  iexact ag01

end Cert.KernelProof

end
-- ==== Proof.Body.lean ====
/-
# The body of one device, part by part
-/
module

public import proofs.«01_k».proof.Proof.PartsA
public import proofs.«01_k».proof.Proof.PartsB
public import proofs.«01_k».proof.Proof.PartsC
public import proofs.«01_k».proof.Proof.PartsD

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The positions of a device at its cells, all in round `n`. -/
def posAll (c : Dev nD) (n : ℕ) : sProp 𝕄 := bigSep (Finset.univ : Finset CK) fun k => posK c k n
/-- The tokens a device pays. -/
def tokAll (c : Dev nD) : sProp 𝕄 := bigSep (Finset.univ : Finset T) fun t => tokT c t
/-- The keys that peers pay: the credit to wait there is dealt at launch. -/
abbrev paid : List CK := [.inl 0, .inl 1, .inl 2, .inr (.inl ()), kZ 0 0, kZ 0 1, kZ 1 0, kZ 1 1, kZ 2 0, kZ 2 1, kG 0 0, kG 0 1, kG 1 0, kG 1 1, kG 2 0, kG 2 1]
/-- The credits dealt at launch. -/
def credAll (c : Dev nD) : sProp 𝕄 := bigSepL paid fun k => credK c k

/-- The protocol's keys in a row, -/
abbrev keys : List CK := [.inl 0, .inl 1, .inl 2, .inr (.inl ()), kz 0 0, kz 0 1, kz 1 0, kz 1 1, kz 2 0, kz 2 1, kZ 0 0, kZ 0 1, kZ 1 0, kZ 1 1, kZ 2 0, kZ 2 1, kg 0 0, kg 0 1, kg 1 0, kg 1 1, kg 2 0, kg 2 1, kG 0 0, kG 0 1, kG 1 0, kG 1 1, kG 2 0, kG 2 1]
/-- and its tokens. -/
abbrev toks : List T := [.inl 0, .inl 1, .inl 2, .inr (.inl 0), .inr (.inl 1), .inr (.inl 2), tz 0 0, tz 0 1, tz 1 0, tz 1 1, tz 2 0, tz 2 1, tZ 0 0, tZ 0 1, tZ 1 0, tZ 1 1, tZ 2 0, tZ 2 1, tg 0 0, tg 0 1, tg 1 0, tg 1 1, tg 2 0, tg 2 1, tG 0 0, tG 0 1, tG 1 0, tG 1 1, tG 2 0, tG 2 1]
/-- No key is listed twice, -/
theorem keys_nodup : keys.Nodup := by decide +kernel
/-- and no token. -/
theorem toks_nodup : toks.Nodup := by decide +kernel
/-- Every key is listed, -/
theorem keys_all : (Finset.univ : Finset CK) = keys.toFinset := by
  refine (Finset.eq_univ_iff_forall.mpr fun k => List.mem_toFinset.mpr ?_).symm
  rcases k with s | u | ⟨k, s, h⟩
  · fin_cases s <;> repeat (first | exact List.mem_cons_self | refine List.mem_cons_of_mem _ ?_)
  · repeat (first | exact List.mem_cons_self | refine List.mem_cons_of_mem _ ?_)
  · fin_cases k <;> fin_cases s <;> fin_cases h <;> repeat (first | exact List.mem_cons_self | refine List.mem_cons_of_mem _ ?_)
/-- and every token. -/
theorem toks_all : (Finset.univ : Finset T) = toks.toFinset := by
  refine (Finset.eq_univ_iff_forall.mpr fun k => List.mem_toFinset.mpr ?_).symm
  rcases k with s | j | ⟨k, s, h⟩
  · fin_cases s <;> repeat (first | exact List.mem_cons_self | refine List.mem_cons_of_mem _ ?_)
  · fin_cases j <;> repeat (first | exact List.mem_cons_self | refine List.mem_cons_of_mem _ ?_)
  · fin_cases k <;> fin_cases s <;> fin_cases h <;> repeat (first | exact List.mem_cons_self | refine List.mem_cons_of_mem _ ?_)
/-- A device's positions, one by one, -/
theorem posAll_eq (c : Dev nD) (n : ℕ) : (posAll c n : sProp 𝕄) = iprop(posK c (.inl 0) n ∗ posK c (.inl 1) n ∗ posK c (.inl 2) n ∗ posK c (.inr (.inl ())) n ∗ posK c (kz 0 0) n ∗ posK c (kz 0 1) n ∗ posK c (kz 1 0) n ∗ posK c (kz 1 1) n ∗ posK c (kz 2 0) n ∗ posK c (kz 2 1) n ∗ posK c (kZ 0 0) n ∗ posK c (kZ 0 1) n ∗ posK c (kZ 1 0) n ∗ posK c (kZ 1 1) n ∗ posK c (kZ 2 0) n ∗ posK c (kZ 2 1) n ∗ posK c (kg 0 0) n ∗ posK c (kg 0 1) n ∗ posK c (kg 1 0) n ∗ posK c (kg 1 1) n ∗ posK c (kg 2 0) n ∗ posK c (kg 2 1) n ∗ posK c (kG 0 0) n ∗ posK c (kG 0 1) n ∗ posK c (kG 1 0) n ∗ posK c (kG 1 1) n ∗ posK c (kG 2 0) n ∗ posK c (kG 2 1) n) := by
  unfold posAll
  rw [bigSep_univ_eq_bigSepL keys keys_all keys_nodup]
  rfl
/-- its tokens, -/
theorem tokAll_eq (c : Dev nD) : (tokAll c : sProp 𝕄) = iprop(tokT c (.inl 0) ∗ tokT c (.inl 1) ∗ tokT c (.inl 2) ∗ tokT c (.inr (.inl 0)) ∗ tokT c (.inr (.inl 1)) ∗ tokT c (.inr (.inl 2)) ∗ tokT c (tz 0 0) ∗ tokT c (tz 0 1) ∗ tokT c (tz 1 0) ∗ tokT c (tz 1 1) ∗ tokT c (tz 2 0) ∗ tokT c (tz 2 1) ∗ tokT c (tZ 0 0) ∗ tokT c (tZ 0 1) ∗ tokT c (tZ 1 0) ∗ tokT c (tZ 1 1) ∗ tokT c (tZ 2 0) ∗ tokT c (tZ 2 1) ∗ tokT c (tg 0 0) ∗ tokT c (tg 0 1) ∗ tokT c (tg 1 0) ∗ tokT c (tg 1 1) ∗ tokT c (tg 2 0) ∗ tokT c (tg 2 1) ∗ tokT c (tG 0 0) ∗ tokT c (tG 0 1) ∗ tokT c (tG 1 0) ∗ tokT c (tG 1 1) ∗ tokT c (tG 2 0) ∗ tokT c (tG 2 1)) := by
  unfold tokAll
  rw [bigSep_univ_eq_bigSepL toks toks_all toks_nodup]
  rfl
/-- and its credits. -/
theorem credAll_eq (c : Dev nD) : (credAll c : sProp 𝕄) = iprop(credK c (.inl 0) ∗ credK c (.inl 1) ∗ credK c (.inl 2) ∗ credK c (.inr (.inl ())) ∗ credK c (kZ 0 0) ∗ credK c (kZ 0 1) ∗ credK c (kZ 1 0) ∗ credK c (kZ 1 1) ∗ credK c (kZ 2 0) ∗ credK c (kZ 2 1) ∗ credK c (kG 0 0) ∗ credK c (kG 0 1) ∗ credK c (kG 1 0) ∗ credK c (kG 1 1) ∗ credK c (kG 2 0) ∗ credK c (kG 2 1)) := rfl

/-- A memref with known contents is a memref with some contents. -/
theorem any_of_owns (c : Dev nD) {s : Shape} {e : EltTy} (M : Memref sig .tc .vmem s e) (q : PosShare TreeShare) (X : s.Idx → Elt F e) :
    (owns (c : Thread nD τ) M q X : sProp 𝕄) ⊢ anyM c M q := ownsSat_intro (c : Thread nD τ) M q trivial

/-- What a device's run ends with. -/
def endRes (c : Dev nD) : sProp 𝕄 :=
  iprop(ol c 18 ∗ posAll c 1 ∗ xPts m c ∗ gPts m c ∗ oPts c (outAt m c) ∗ anyM c zsM fullShare ∗ anyM c zrM fullShare ∗ anyM c gsM fullShare ∗ anyM c grM fullShare)

/-- The kernel's body on one device, from its tokens, credits and buffers to its result. -/
theorem body_run (c : Dev nD) (fo : (cc0_stg2_0 : Ref sig .tc).ty.Contents (Elt F)) (fz : (cc0_scratch0 : Ref sig .tc).ty.Contents (Elt F)) (Kt : PUnit → sProp 𝕄) :
    iprop(records m K ∗ ol c 0 ∗ posAll c 0 ∗ tokAll c ∗ credAll c ∗ xPts m c ∗ gPts m c ∗ oPts c fo ∗ zsPts c fz
        ∗ anyM c zrM fullShare ∗ anyM c gsM fullShare ∗ anyM c grM fullShare ∗ (endRes m c -∗ Kt ⟨⟩))
      ⊢ WP c (cc0_body xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8) Kt := by
  unfold endRes
  rw [posAll_eq, posAll_eq, tokAll_eq, credAll_eq]
  rw [cc0_body_eq_skeleton]; unfold cc0_body_skel
  iintro ⟨#HR, HO, HP, HT, HC, Hx, Hg, Ho, Hz, Hzr, Hgs, Hgr, Hk⟩
  icases HP with ⟨Pr0, Pr1, Pr2, Pb, Pz00, Pz01, Pz10, Pz11, Pz20, Pz21, PZ00, PZ01, PZ10, PZ11, PZ20, PZ21, Pg00, Pg01, Pg10, Pg11, Pg20, Pg21, PG00, PG01, PG10, PG11, PG20, PG21⟩
  icases HT with ⟨Tr0, Tr1, Tr2, Tb0, Tb1, Tb2, Tz00, Tz01, Tz10, Tz11, Tz20, Tz21, TZ00, TZ01, TZ10, TZ11, TZ20, TZ21, Tg00, Tg01, Tg10, Tg11, Tg20, Tg21, TG00, TG01, TG10, TG11, TG20, TG21⟩
  icases HC with ⟨Cr0, Cr1, Cr2, Cb, CZ00, CZ01, CZ10, CZ11, CZ20, CZ21, CG00, CG01, CG10, CG11, CG20, CG21⟩
  ihave Hzr' := (any_split (F := F) c zrM) $$ Hzr
  icases Hzr' with ⟨zr00, zr01, zr10, zr11, zr20, zr21⟩
  ihave Hgr' := (any_split (F := F) c grM) $$ Hgr
  icases Hgr' with ⟨gr00, gr01, gr10, gr11, gr20, gr21⟩
  ihave Hgs' := (gs_split (F := F) c) $$ Hgs
  icases Hgs' with ⟨gs0, gs1⟩
  -- part 1
  iapply (st_bind c _ _ _)
  iapply (part1 m K c _)
  isplitr; · iexact HR
  isplitl [HO]; · iexact HO
  isplitl [Tr0]; · iexact Tr0
  isplitl [zr00]; · iexact zr00
  isplitl [zr01]; · iexact zr01
  iintro %r %hr
  iintro HO
  obtain ⟨d0, v2, v5, v8, v10, v11, v26, c2_15, v27, v32, v33⟩ := r
  obtain ⟨h1, h2⟩ := hr
  have h1' : c = d0 := h1.symm
  have h2' : barA = v11 := h2.symm
  subst h1' h2'
  -- part 2
  iapply (st_bind c _ _ _)
  iapply (part2 m K c _ _ _ _ _ _ _ _ _ _)
  isplitr; · iexact HR
  isplitl [HO]; · iexact HO
  isplitl [Tb2]; · iexact Tb2
  isplitl [gr20]; · iexact gr20
  isplitl [gr21]; · iexact gr21
  isplitl [Tr1]; · iexact Tr1
  isplitl [zr10]; · iexact zr10
  isplitl [zr11]; · iexact zr11
  iintro %r2
  iintro HO
  obtain ⟨v65, c2_41, v66, v67⟩ := r2
  -- part 3
  iapply (st_bind c _ _ _)
  iapply (part3 m K c _ _ _ _ _ _ _ _ _)
  isplitr; · iexact HR
  isplitl [HO]; · iexact HO
  isplitl [Tb1]; · iexact Tb1
  isplitl [gr10]; · iexact gr10
  isplitl [gr11]; · iexact gr11
  isplitl [Tr2]; · iexact Tr2
  isplitl [zr20]; · iexact zr20
  isplitl [zr21]; · iexact zr21
  iintro %r3
  iintro HO
  obtain ⟨v102, c1_65⟩ := r3
  -- part 4
  iapply (st_bind c _ _ _)
  iapply (part4 m K c _ _ _ _ _)
  isplitr; · iexact HR
  isplitl [HO]; · iexact HO
  isplitl [Tb0]; · iexact Tb0
  isplitl [gr00]; · iexact gr00
  isplitl [gr01]; · iexact gr01
  isplitl [Hx]; · iexact Hx
  iintro ⟨HO, Hx⟩
  -- part 5
  iapply (st_bind c _ _ _)
  iapply (part5 m K c _ _ fz _)
  isplitr; · iexact HR
  isplitl [HO]; · iexact HO
  isplitl [Hz]; · iexact Hz
  isplitl [Hx]; · iexact Hx
  isplitl [Cr0 Pr0]; · (isplitl [Cr0]; · iexact Cr0); iexact Pr0
  iintro %r5
  iintro ⟨HO, Hz, Hx, Qr0, dz00, dz01⟩
  rw [zs_stored]
  ihave Hzc := (zs_split m c) $$ Hz
  icases Hzc with ⟨zc00, zc01, zc10, zc11, zc20, zc21⟩
  -- part 6
  iapply (st_bind c _ _ _)
  iapply (part6 m K c _ _ _ _)
  isplitr; · iexact HR
  isplitl [HO]; · iexact HO
  isplitl [zc00]; · iexact zc00
  isplitl [dz00]; · iexact dz00
  isplitl [Tz00 TZ00 Pz00]; · (isplitl [Tz00]; · iexact Tz00); (isplitl [TZ00]; · iexact TZ00); iexact Pz00
  iintro %r6
  iintro ⟨HO, ⟨Cz00, Pz00⟩⟩
  -- part 7
  iapply (st_bind c _ _ _)
  iapply (part7 m K c _ _ _ _)
  isplitr; · iexact HR
  isplitl [HO]; · iexact HO
  isplitl [zc01]; · iexact zc01
  isplitl [dz01]; · iexact dz01
  isplitl [Tz01 TZ01 Pz01]; · (isplitl [Tz01]; · iexact Tz01); (isplitl [TZ01]; · iexact TZ01); iexact Pz01
  isplitl [Cr1 Pr1]; · (isplitl [Cr1]; · iexact Cr1); iexact Pr1
  isplitl [zc10]; · iexact zc10
  isplitl [Tz10 TZ10 Pz10]; · (isplitl [Tz10]; · iexact Tz10); (isplitl [TZ10]; · iexact TZ10); iexact Pz10
  iintro %r7
  iintro ⟨HO, ⟨Cz01, Pz01⟩, Qr1, dz11, ⟨Cz10, Pz10⟩⟩
  obtain ⟨v202, v218, c4_176⟩ := r7
  -- part 8
  iapply (st_bind c _ _ _)
  iapply (part8 m K c _ _ _ _ _ _ _)
  isplitr; · iexact HR
  isplitl [HO]; · iexact HO
  isplitl [zc11]; · iexact zc11
  isplitl [dz11]; · iexact dz11
  isplitl [Tz11 TZ11 Pz11]; · (isplitl [Tz11]; · iexact Tz11); (isplitl [TZ11]; · iexact TZ11); iexact Pz11
  isplitl [Cr2 Pr2]; · (isplitl [Cr2]; · iexact Cr2); iexact Pr2
  iintro %r8
  iintro ⟨HO, ⟨Cz11, Pz11⟩, Qr2, dz20, dz21⟩
  -- part 9
  iapply (st_bind c _ _ _)
  iapply (part9 m K c _ _ _ _ _ _ _)
  isplitr; · iexact HR
  isplitl [HO]; · iexact HO
  isplitl [zc20]; · iexact zc20
  isplitl [dz20]; · iexact dz20
  isplitl [Tz20 TZ20 Pz20]; · (isplitl [Tz20]; · iexact Tz20); (isplitl [TZ20]; · iexact TZ20); iexact Pz20
  isplitl [zc21]; · iexact zc21
  isplitl [dz21]; · iexact dz21
  isplitl [Tz21 TZ21 Pz21]; · (isplitl [Tz21]; · iexact Tz21); (isplitl [TZ21]; · iexact TZ21); iexact Pz21
  isplitl [Hx]; · iexact Hx
  iintro ⟨HO, ⟨Cz20, Pz20⟩, ⟨Cz21, Pz21⟩, Hx⟩
  -- part 10
  iapply (st_bind c _ _ _)
  iapply (part10 m K c _ _ _ _ _)
  isplitr; · iexact HR
  isplitl [HO]; · iexact HO
  isplitl [CZ00 PZ00]; · (isplitl [CZ00]; · iexact CZ00); iexact PZ00
  isplitl [CZ10 PZ10]; · (isplitl [CZ10]; · iexact CZ10); iexact PZ10
  iintro ⟨HO, QZ00, zl00, QZ10, zl10⟩
  -- part 11
  iapply (st_bind c _ _ _)
  iapply (part11 m K c _ _ _ _ _ _ _)
  isplitr; · iexact HR
  isplitl [HO]; · iexact HO
  isplitl [CZ20 PZ20]; · (isplitl [CZ20]; · iexact CZ20); iexact PZ20
  isplitl [Hg]; · iexact Hg
  isplitl [Ho]; · iexact Ho
  iintro ⟨HO, QZ20, zl20, Hg, Ho⟩
  -- part 12
  iapply (st_bind c _ _ _)
  iapply (part12 m K c _ _ _ _)
  isplitr; · iexact HR
  isplitl [HO]; · iexact HO
  isplitl [Ho]; · iexact Ho
  isplitl [gs0]; · iexact gs0
  isplitl [Cb Pb]; · (isplitl [Cb]; · iexact Cb); iexact Pb
  iintro %r12
  iintro ⟨HO, Ho, gs0, Qb, dg00, dg01, dg10, dg11, dg20, dg21⟩
  obtain ⟨v361, v362, v366, v367⟩ := r12
  ihave Hgc := (g_thirds (F := F) c 0 (gC m c 0)) $$ gs0
  icases Hgc with ⟨gc00, gc10, gc20⟩
  -- part 13
  iapply (st_bind c _ _ _)
  iapply (part13 m K c _ _ _ _)
  isplitr; · iexact HR
  isplitl [HO]; · iexact HO
  isplitl [gc10]; · iexact gc10
  isplitl [dg10]; · iexact dg10
  isplitl [Tg10 TG10 Pg10]; · (isplitl [Tg10]; · iexact Tg10); (isplitl [TG10]; · iexact TG10); iexact Pg10
  iintro %r13
  iintro ⟨HO, ⟨Cg10, Pg10⟩⟩
  obtain ⟨v396, v397, v401⟩ := r13
  -- part 14
  iapply (st_bind c _ _ _)
  iapply (part14 m K c _ _ _ _)
  isplitr; · iexact HR
  isplitl [HO]; · iexact HO
  isplitl [gc00]; · iexact gc00
  isplitl [dg00]; · iexact dg00
  isplitl [Tg00 TG00 Pg00]; · (isplitl [Tg00]; · iexact Tg00); (isplitl [TG00]; · iexact TG00); iexact Pg00
  iintro %r14
  iintro ⟨HO, ⟨Cg00, Pg00⟩⟩
  obtain ⟨v431, v432, v434, c4_365⟩ := r14
  -- part 15
  iapply (st_bind c _ _ _)
  iapply (part15 m K c _ _ _ _ _ _ _ _ _)
  isplitr; · iexact HR
  isplitl [HO]; · iexact HO
  isplitl [gc20]; · iexact gc20
  isplitl [dg20]; · iexact dg20
  isplitl [Tg20 TG20 Pg20]; · (isplitl [Tg20]; · iexact Tg20); (isplitl [TG20]; · iexact TG20); iexact Pg20
  isplitl [Hx]; · iexact Hx
  isplitl [CZ01 PZ01]; · (isplitl [CZ01]; · iexact CZ01); iexact PZ01
  iintro ⟨HO, ⟨Cg20, Pg20⟩, Hx, QZ01, zl01⟩
  -- part 16
  iapply (st_bind c _ _ _)
  iapply (part16 m K c _ _ _ _ _ _)
  isplitr; · iexact HR
  isplitl [HO]; · iexact HO
  isplitl [zl01]; · iexact zl01
  isplitl [CZ11 PZ11]; · (isplitl [CZ11]; · iexact CZ11); iexact PZ11
  iintro ⟨HO, zl01, QZ11, zl11⟩
  -- part 17
  iapply (st_bind c _ _ _)
  iapply (part17 m K c _ _ _)
  isplitr; · iexact HR
  isplitl [HO]; · iexact HO
  isplitl [CZ21 PZ21]; · (isplitl [CZ21]; · iexact CZ21); iexact PZ21
  isplitl [Hg]; · iexact Hg
  isplitl [Ho]; · iexact Ho
  isplitl [gs1]; · iexact gs1
  iintro %r17
  iintro ⟨HO, QZ21, zl21, Hg, Ho, gs1⟩
  obtain ⟨v526, c4_446⟩ := r17
  ihave Hgc := (g_thirds (F := F) c 1 (gC m c 1)) $$ gs1
  icases Hgc with ⟨gc01, gc11, gc21⟩
  -- part 18
  iapply (st_bind c _ _ _)
  iapply (part18 m K c _ _ _ _ _)
  isplitr; · iexact HR
  isplitl [HO]; · iexact HO
  isplitl [gc11]; · iexact gc11
  isplitl [dg11]; · iexact dg11
  isplitl [Tg11 TG11 Pg11]; · (isplitl [Tg11]; · iexact Tg11); (isplitl [TG11]; · iexact TG11); iexact Pg11
  iintro %r18
  iintro ⟨HO, ⟨Cg11, Pg11⟩⟩
  obtain ⟨v544, v545, v560, c1_471⟩ := r18
  -- part 19
  iapply (st_bind c _ _ _)
  iapply (part19 m K c _ _ _ _)
  isplitr; · iexact HR
  isplitl [HO]; · iexact HO
  isplitl [gc01]; · iexact gc01
  isplitl [dg01]; · iexact dg01
  isplitl [Tg01 TG01 Pg01]; · (isplitl [Tg01]; · iexact Tg01); (isplitl [TG01]; · iexact TG01); iexact Pg01
  iintro %r19
  iintro ⟨HO, ⟨Cg01, Pg01⟩⟩
  obtain ⟨v579, v580, c2_496⟩ := r19
  -- part 20
  iapply (st_bind c _ _ _)
  rw [k0_part20_eq_skeleton]; unfold k0_part20_skel
  simp only [Prog.pure_eq_ret]
  iapply (st_ret c _ _)
  -- part 21
  iapply (st_bind c _ _ _)
  iapply (part21 m K c _ _ _ _ _ _)
  isplitr; · iexact HR
  isplitl [HO]; · iexact HO
  isplitl [gc21]; · iexact gc21
  isplitl [dg21]; · iexact dg21
  isplitl [Tg21 TG21 Pg21]; · (isplitl [Tg21]; · iexact Tg21); (isplitl [TG21]; · iexact TG21); iexact Pg21
  isplitl [CG00 PG00]; · (isplitl [CG00]; · iexact CG00); iexact PG00
  isplitl [Ho]; · iexact Ho
  iintro %r21
  iintro ⟨HO, ⟨Cg21, Pg21⟩, QG00, gl00, Ho⟩
  -- part 22
  iapply (st_bind c _ _ _)
  iapply (part22 m K c _ _ _ _ _ _ _ _ _)
  isplitr; · iexact HR
  isplitl [HO]; · iexact HO
  isplitl [CG10 PG10]; · (isplitl [CG10]; · iexact CG10); iexact PG10
  isplitl [Ho]; · iexact Ho
  iintro %r22
  iintro ⟨HO, QG10, gl10, Ho⟩
  -- part 23
  iapply (st_bind c _ _ _)
  iapply (part23 m K c _ _ _ _ _ _)
  isplitr; · iexact HR
  isplitl [HO]; · iexact HO
  isplitl [CG20 PG20]; · (isplitl [CG20]; · iexact CG20); iexact PG20
  isplitl [Ho]; · iexact Ho
  iintro %r23
  iintro ⟨HO, QG20, gl20, Ho⟩
  -- part 24
  iapply (st_bind c _ _ _)
  iapply (part24 m K c _ _ _ _ _ _)
  isplitr; · iexact HR
  isplitl [HO]; · iexact HO
  isplitl [CG01 PG01]; · (isplitl [CG01]; · iexact CG01); iexact PG01
  isplitl [Ho]; · iexact Ho
  isplitl [CG11 PG11]; · (isplitl [CG11]; · iexact CG11); iexact PG11
  iintro %r24
  iintro ⟨HO, QG01, gl01, Ho, QG11, gl11⟩
  obtain ⟨v736, c4_644⟩ := r24
  -- part 25
  iapply (st_bind c _ _ _)
  iapply (part25 m K c _ _ _ _ _ _ _ _)
  isplitr; · iexact HR
  isplitl [HO]; · iexact HO
  isplitl [gl11]; · iexact gl11
  isplitl [Ho]; · iexact Ho
  isplitl [CG21 PG21]; · (isplitl [CG21]; · iexact CG21); iexact PG21
  iintro %r %hr
  iintro ⟨HO, gl11, Ho, QG21, gl21⟩
  obtain ⟨v760, v763, c128⟩ := r
  have h' : outG m c 2 1 = v763 := hr.symm
  subst h'
  -- part 26
  iapply (st_bind c _ _ _)
  iapply (part26 m K c _ _ _ _)
  isplitr; · iexact HR
  isplitl [HO]; · iexact HO
  isplitl [Ho]; · iexact Ho
  isplitl [Cz00 Pz00]; · (isplitl [Cz00]; · iexact Cz00); iexact Pz00
  isplitl [Cz01 Pz01]; · (isplitl [Cz01]; · iexact Cz01); iexact Pz01
  iintro %r26
  iintro ⟨HO, Ho, Qz00, az00, Qz01, az01⟩
  -- part 27
  iapply (st_bind c _ _ _)
  iapply (part27 m K c _)
  isplitr; · iexact HR
  isplitl [HO]; · iexact HO
  isplitl [Cz10 Pz10]; · (isplitl [Cz10]; · iexact Cz10); iexact Pz10
  isplitl [Cz11 Pz11]; · (isplitl [Cz11]; · iexact Cz11); iexact Pz11
  isplitl [Cz20 Pz20]; · (isplitl [Cz20]; · iexact Cz20); iexact Pz20
  iintro %r27
  iintro ⟨HO, Qz10, az10, Qz11, az11, Qz20, az20⟩
  -- part 28
  iapply (st_bind c _ _ _)
  iapply (part28 m K c _)
  isplitr; · iexact HR
  isplitl [HO]; · iexact HO
  isplitl [Cz21 Pz21]; · (isplitl [Cz21]; · iexact Cz21); iexact Pz21
  isplitl [Cg10 Pg10]; · (isplitl [Cg10]; · iexact Cg10); iexact Pg10
  isplitl [Cg00 Pg00]; · (isplitl [Cg00]; · iexact Cg00); iexact Pg00
  iintro %r28
  iintro ⟨HO, Qz21, az21, Qg10, ag10, Qg00, ag00⟩
  -- part 29
  iapply (st_bind c _ _ _)
  iapply (part29 m K c _)
  isplitr; · iexact HR
  isplitl [HO]; · iexact HO
  isplitl [Cg20 Pg20]; · (isplitl [Cg20]; · iexact Cg20); iexact Pg20
  isplitl [Cg11 Pg11]; · (isplitl [Cg11]; · iexact Cg11); iexact Pg11
  isplitl [Cg01 Pg01]; · (isplitl [Cg01]; · iexact Cg01); iexact Pg01
  iintro %r29
  iintro ⟨HO, Qg20, ag20, Qg11, ag11, Qg01, ag01⟩
  -- the last wait
  simp only [Prog.lift, Prog.bind_op, Prog.bind_ret, Prog.pure_eq_ret]
  iapply (st_waitDma m K c (kg 2 1) (order.drop 18) _ _ _ (by rfl) (by rfl) (by decide)) $$ [HO Cg21 Pg21]
  · isplitr; · iexact HR
    isplitl [Cg21]; · iexact Cg21
    isplitl [HO]; · iexact HO
    iexact Pg21
  rw [rest_g]
  iintro ⟨HO, Qg21, ag21⟩
  iapply (st_ret c _ _)
  iapply Hk
  isplitl [HO]; · iexact HO
  isplitl [Qr0 Qr1 Qr2 Qb Qz00 Qz01 Qz10 Qz11 Qz20 Qz21 QZ00 QZ01 QZ10 QZ11 QZ20 QZ21 Qg00 Qg01 Qg10 Qg11 Qg20 Qg21 QG00 QG01 QG10 QG11 QG20 QG21]
  · isplitl [Qr0]; · iexact Qr0
    isplitl [Qr1]; · iexact Qr1
    isplitl [Qr2]; · iexact Qr2
    isplitl [Qb]; · iexact Qb
    isplitl [Qz00]; · iexact Qz00
    isplitl [Qz01]; · iexact Qz01
    isplitl [Qz10]; · iexact Qz10
    isplitl [Qz11]; · iexact Qz11
    isplitl [Qz20]; · iexact Qz20
    isplitl [Qz21]; · iexact Qz21
    isplitl [QZ00]; · iexact QZ00
    isplitl [QZ01]; · iexact QZ01
    isplitl [QZ10]; · iexact QZ10
    isplitl [QZ11]; · iexact QZ11
    isplitl [QZ20]; · iexact QZ20
    isplitl [QZ21]; · iexact QZ21
    isplitl [Qg00]; · iexact Qg00
    isplitl [Qg01]; · iexact Qg01
    isplitl [Qg10]; · iexact Qg10
    isplitl [Qg11]; · iexact Qg11
    isplitl [Qg20]; · iexact Qg20
    isplitl [Qg21]; · iexact Qg21
    isplitl [QG00]; · iexact QG00
    isplitl [QG01]; · iexact QG01
    isplitl [QG10]; · iexact QG10
    isplitl [QG11]; · iexact QG11
    isplitl [QG20]; · iexact QG20
    iexact QG21
  isplitl [Hx]; · iexact Hx
  isplitl [Hg]; · iexact Hg
  isplitl [Ho]; · iapply (Entails.of_eq (congrArg (oPts (F := F) c) (oChain_eq m c fo))); iexact Ho
  isplitl [az00 az01 az10 az11 az20 az21]
  · iapply (any_join (F := F) c zsM)
    isplitl [az00]; · iexact az00
    isplitl [az01]; · iexact az01
    isplitl [az10]; · iexact az10
    isplitl [az11]; · iexact az11
    isplitl [az20]; · iexact az20
    iexact az21
  isplitl [zl00 zl01 zl10 zl11 zl20 zl21]
  · iapply (any_join (F := F) c zrM)
    isplitl [zl00]; · iapply (any_of_owns (F := F) c _ _ _); iexact zl00
    isplitl [zl01]; · iapply (any_of_owns (F := F) c _ _ _); iexact zl01
    isplitl [zl10]; · iapply (any_of_owns (F := F) c _ _ _); iexact zl10
    isplitl [zl11]; · iapply (any_of_owns (F := F) c _ _ _); iexact zl11
    isplitl [zl20]; · iapply (any_of_owns (F := F) c _ _ _); iexact zl20
    iapply (any_of_owns (F := F) c _ _ _); iexact zl21
  isplitl [ag00 ag10 ag20 ag01 ag11 ag21]
  · iapply (gs_join (F := F) c)
    isplitl [ag00 ag10 ag20]
    · iapply (g_unthirds (F := F) c 0)
      isplitl [ag00]; · iexact ag00
      isplitl [ag10]; · iexact ag10
      iexact ag20
    iapply (g_unthirds (F := F) c 1)
    isplitl [ag01]; · iexact ag01
    isplitl [ag11]; · iexact ag11
    iexact ag21
  iapply (any_join (F := F) c grM)
  isplitl [gl00]; · iapply (any_of_owns (F := F) c _ _ _); iexact gl00
  isplitl [gl01]; · iapply (any_of_owns (F := F) c _ _ _); iexact gl01
  isplitl [gl10]; · iapply (any_of_owns (F := F) c _ _ _); iexact gl10
  isplitl [gl11]; · iapply (any_of_owns (F := F) c _ _ _); iexact gl11
  isplitl [gl20]; · iapply (any_of_owns (F := F) c _ _ _); iexact gl20
  iapply (any_of_owns (F := F) c _ _ _); iexact gl21

end Cert.KernelProof

end
-- ==== Proof.Launch.lean ====
/-
# The launch: from a machine at rest to what each device starts from

The protocol's cells are opened at every device at once, the tokens are dealt to the devices that pay them, and the
credits are read off what the devices owe one another.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores the launch owns -/

/-- The protocol's semaphores without the barrier: those that belong to the launch. -/
abbrev OK : Type := Fin 3 ⊕ (Fin 4 × Fin 3 × Fin 2)
/-- Such a semaphore's key -/
def okey : OK → CK
  | .inl s => .inl s
  | .inr x => .inr (.inr x)
/-- and the semaphore. -/
abbrev osem (k : OK) : SemLoc sig := csem (okey k)

/-- Different such semaphores have different keys. -/
theorem okey_inj : Function.Injective okey := by
  rintro (a | a) (b | b) h
  · exact congrArg _ (Sum.inl.inj h)
  · exact absurd h (by intro h; cases h)
  · exact absurd h (by intro h; cases h)
  · exact congrArg _ (Sum.inr.inj (Sum.inr.inj h))

/-- They are the launch's own: none of them serves the staging copies. -/
theorem ownSemFacts : Pipeline.OwnSemFacts cfg0.spec osem where
  isScoped := by decide +kernel
  inj := fun _ _ h => okey_inj (csem_inj h)
  disj := by decide +kernel

/-- A device's counters at zero: those of the launch and the barrier's. -/
def zeros (c : Dev nD) : sProp 𝕄 := bigSep (Finset.univ : Finset CK) fun k => semVal (kcell (c, k)) 0

/-- The one counter that outlives the call is the barrier's. -/
theorem unscoped_eq (c : Dev nD) : (unscopedSems0 c : sProp 𝕄) = semVal (kcell (c, .inr (.inl ()))) 0 := by
  unfold unscopedSems0; rw [bigSep_eq_bigSepL_of_eq [SemLoc.reg (⟨3, by decide⟩ : Fin 4)] (by decide +kernel) (by decide)]; rfl

/-- The middle of three moved to the end, -/
theorem last_two (A B C : sProp 𝕄) : iprop(A ∗ B ∗ C) ⊢ iprop((A ∗ C) ∗ B) := by
  iintro ⟨A, B, C⟩
  isplitl [A C]
  · isplitl [A]; · iexact A
    iexact C
  iexact B
/-- and back. -/
theorem last_two_back (A B C : sProp 𝕄) : iprop((A ∗ C) ∗ B) ⊢ iprop(A ∗ B ∗ C) := by
  iintro ⟨⟨A, C⟩, B⟩
  isplitl [A]; · iexact A
  isplitl [B]; · iexact B
  iexact C

/-- The counters at zero are the launch's and the barrier's. -/
theorem zeros_eq (c : Dev nD) :
    (zeros c : sProp 𝕄) = iprop(Pipeline.ownSems0 (Ix := Unit) (Name := ℕ) (U := UU) (Lvl := ℕ) (Val := Elt F) (τ := τ) osem c ∗ unscopedSems0 c) := by
  rw [unscoped_eq]
  unfold zeros Pipeline.ownSems0
  rw [BI.bigSep_univ_sum, BI.bigSep_univ_sum, BI.bigSep_univ_sum, bigSep_univ_of_subsingleton ()]
  generalize (semVal (kcell (c, .inr (.inl ()))) 0 : sProp 𝕄) = X
  show iprop(_ ∗ X ∗ _) = iprop((_ ∗ _) ∗ X)
  exact equiv_iff.mp ⟨last_two _ _ _, last_two_back _ _ _⟩

/-! ## Opening the cells -/

/-- A token is known by its key and its duty. -/
theorem token_inj : Function.Injective fun t : T => (tk t, td t) := by
  rintro (a | a | a) (b | b | b) h <;> simp only [tk, td, Prod.mk.injEq, Sum.inl.injEq, Sum.inr.injEq, reduceCtorEq, false_and, and_true, true_and] at h <;> subst h <;> rfl

/-- A token as it is minted, at the cell of device `x.1`. -/
def mint (x : Dev nD × T) : GSem nD τ sig × ℕ × D := (kcell (x.1, tk x.2), 0, td x.2)
/-- and no two tokens are minted alike. -/
theorem mint_inj : Function.Injective mint := by
  rintro ⟨c, t⟩ ⟨c', t'⟩ h
  have h1 : (c, tk t) = (c', tk t') := kcell_inj (congrArg Prod.fst h)
  have h2 : td t = td t' := congrArg (fun y : GSem nD τ sig × ℕ × D => y.2.2) h
  have h3 : t = t' := token_inj (Prod.ext (congrArg Prod.snd h1) h2)
  exact Prod.ext (congrArg (fun y : Dev nD × CK => y.1) h1) h3

/-- Every device's cells -/
def allCells : Finset (GSem nD τ sig) := Finset.univ.map ⟨kcell, kcell_inj⟩
/-- and their tokens. -/
def allToks : Finset (GSem nD τ sig × ℕ × D) := Finset.univ.map ⟨mint, mint_inj⟩

/-- What is minted at the launch. -/
def u₀ : UU := (initOf (Pipeline.cells cfgs cellOf_inj) (Pipeline.launchToks cfgs cellOf_inj), initOf allCells allToks)

/-- The tokens of device `c`'s own cells. -/
def minted (c : Dev nD) : sProp 𝕄 := bigSep (Finset.univ : Finset T) fun t => dutyTok ER (kcell (c, tk t)) 0 (td t)

/-- Device `c`'s share of what is minted: its cells' states, its positions, that its cells have started, its cells' tokens. -/
def share0 (c : Dev nD) : sProp 𝕄 :=
  iprop((bigSep (Finset.univ : Finset CK) fun k => roundState ER (sched m) (kcell (c, k)) 0)
    ∗ posAll c 0 ∗ (bigSep (Finset.univ : Finset CK) fun k => reached ER (kcell (c, k)) 0) ∗ minted c)

/-- What is minted comes apart into the shares of the devices. -/
theorem mint_all : BI.own (ER (initOf allCells allToks)) ⊢ (|==> bigSep Finset.univ (share0 m) : sProp 𝕄) := by
  have hX (Φ : GSem nD τ sig → sProp 𝕄) : bigSep allCells Φ = bigSep Finset.univ fun c : Dev nD => bigSep Finset.univ fun k : CK => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => minted c := by
    unfold allToks; rw [BI.bigSep_map, bigSep_univ_prod]; rfl
  iintro H
  imod (Rounds.fund ER (sched m) allCells allToks) $$ H with ⟨Hs, Hr, Hp, Ht⟩
  imodintro
  ihave Hs := (Entails.of_eq (hX fun g => roundState ER (sched m) g 0)) $$ Hs
  ihave Hp := (Entails.of_eq (hX fun g => atPos ER g 0 ∅ 0)) $$ Hp
  ihave Hr := (Entails.of_eq (hX fun g => reached ER g 0)) $$ Hr
  ihave Ht := (Entails.of_eq hT) $$ Ht
  unfold share0; simp only [bigSep_sep']
  isplitl [Hs]; · iexact Hs
  isplitl [Hp]; · iexact Hp
  isplitl [Hr]; · iexact Hr
  iexact Ht

/-- A device opens its cells. -/
theorem open_cells (c : Dev nD) :
    iprop(Pipeline.ownSems0 (Ix := Unit) (Name := ℕ) (U := UU) (Lvl := ℕ) (Val := Elt F) (τ := τ) osem c ∗ unscopedSems0 c ∗ share0 m c)
      ⊢ |={Set.univ}=> iprop((bigSep (Finset.univ : Finset CK) fun k => iprop(∃ κ : ℕ, cellInv ER (sched m) κ (kcell (c, k))))
          ∗ posAll c 0 ∗ (bigSep (Finset.univ : Finset CK) fun k => reached ER (kcell (c, k)) 0) ∗ minted c) := by
  unfold share0
  iintro ⟨Ho, Hu, Hs, Hp, Hr, Ht⟩
  ihave Hz := (Entails.of_eq (zeros_eq (F := F) c).symm) $$ [Ho Hu]
  · isplitl [Ho]; · iexact Ho
    iexact Hu
  imod (show iprop(zeros c ∗ bigSep (Finset.univ : Finset CK) fun k => roundState ER (sched m) (kcell (c, k)) 0)
      ⊢ (|={Set.univ}=> bigSep (Finset.univ : Finset CK) fun k => iprop(∃ κ : ℕ, cellInv ER (sched m) κ (kcell (c, k))) : sProp 𝕄) from by
        unfold zeros; rw [← bigSep_sep']
        exact (bigSep_mono fun k _ => (Rounds.body_intro ER (sched m) (kcell (c, k))).trans inv_alloc).trans (bigSep_fupd _ _)) $$ [Hz Hs] with Hi
  · isplitl [Hz]; · iexact Hz
    iexact Hs
  imodintro
  isplitl [Hi]; · iexact Hi
  isplitl [Hp]; · iexact Hp
  isplitl [Hr]; · iexact Hr
  iexact Ht

/-- The records without the levels. -/
def cellRecs (K : Dev nD × CK → ℕ) : sProp 𝕄 :=
  bigSep (Finset.univ : Finset (Dev nD × CK)) fun ck => iprop(cellInv ER (sched m) (K ck) (kcell ck) ∗ reached ER (kcell ck) 0)

instance cellRecs_persistent (K : Dev nD × CK → ℕ) : BI.Persistent (cellRecs m K) := by unfold cellRecs; infer_instance

/-- What device `c` has of the protocol once every cell is open. -/
def dealt (c : Dev nD) : sProp 𝕄 := iprop(∃ K, cellRecs m K ∗ posAll c 0 ∗ tokAll c)

/-- Every token goes to the device that pays it. -/
theorem deal_toks : (bigSep Finset.univ fun c : Dev nD => (minted c : sProp 𝕄)) = bigSep Finset.univ fun c : Dev nD => tokAll c := by
  unfold minted tokAll
  rw [← bigSep_univ_prod (fun x : Dev nD × T => (dutyTok ER (kcell (x.1, tk x.2)) 0 (td x.2) : sProp 𝕄)),
    ← bigSep_univ_prod (fun x : Dev nD × T => (tokT x.1 x.2 : sProp 𝕄))]
  exact bigSep_univ_equiv (⟨fun x => (pe x.2 x.1, x.2), fun x => ((pe x.2).symm x.1, x.2), fun x => Prod.ext ((pe x.2).symm_apply_apply x.1) rfl,
    fun x => Prod.ext ((pe x.2).apply_symm_apply x.1) rfl⟩ : Dev nD × T ≃ Dev nD × T) _

/-- A fact that stays may be used for every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' shares, their cells opened, are dealt: every device gets the tokens that it pays. -/
theorem deal :
    (bigSep Finset.univ fun c : Dev nD => iprop((bigSep (Finset.univ : Finset CK) fun k => iprop(∃ κ : ℕ, cellInv ER (sched m) κ (kcell (c, k))))
          ∗ posAll c 0 ∗ (bigSep (Finset.univ : Finset CK) fun k => reached ER (kcell (c, k)) 0) ∗ minted c) : sProp 𝕄)
      ⊢ bigSep Finset.univ (dealt m) := by
  rw [bigSep_sep', bigSep_sep', bigSep_sep', ← bigSep_univ_prod (fun ck : Dev nD × CK => iprop(∃ κ : ℕ, cellInv ER (sched m) κ (kcell ck))),
    ← bigSep_univ_prod (fun ck : Dev nD × CK => (reached ER (kcell ck) 0 : sProp 𝕄)), deal_toks]
  iintro ⟨Hi, Hp, Hr, Ht⟩
  ihave Hi := (BI.bigSep_exists_pi Finset.univ (fun (ck : Dev nD × CK) (κ : ℕ) => (cellInv ER (sched m) κ (kcell ck) : sProp 𝕄))) $$ Hi
  icases Hi with ⟨%K, Hi⟩
  iapply (with_persistent (R := cellRecs m K) (Φ := fun c => iprop(posAll c 0 ∗ tokAll c)) fun c _ => by
    unfold dealt
    iintro ⟨#H, H'⟩
    iexists K
    isplitr; · iexact H
    iexact H')
  isplitl [Hi Hr]
  · unfold cellRecs; rw [bigSep_sep']
    isplitl [Hi]; · iexact Hi
    iexact Hr
  · rw [bigSep_sep']
    isplitl [Hp]; · iexact Hp
    iexact Ht

/-- All devices open their cells and are dealt their tokens. -/
theorem open_all : (bigSep Finset.univ fun c => iprop(Pipeline.ownSems0 (Ix := Unit) (Name := ℕ) (U := UU) (Lvl := ℕ) (Val := Elt F) (τ := τ) osem c ∗ unscopedSems0 c ∗ share0 m c) : sProp 𝕄)
    ⊢ |={Set.univ}=> bigSep Finset.univ (dealt m) :=
  ((bigSep_mono fun c _ => open_cells m c).trans (bigSep_fupd _ _)).trans (BI.fupd_mono (deal m))

/-! ## The credits -/

/-- What all devices together owe a cell of key `k`: its payment, as often as the list names the key. -/
theorem owed_sum (l : List T) (c : Dev nD) (k : CK) : ∑ d : Dev nD, owed d l (kcell (c, k)) () = l.countP (fun t => decide (tk t = k)) * kamt k := by
  induction l with
  | nil => simp [owed]
  | cons t l ih =>
    have h : ∀ d : Dev nD, owed d (t :: l) (kcell (c, k)) () = owed d l (kcell (c, k)) () + if d = (pe t).symm c then (if tk t = k then kamt k else 0) else 0 := fun d => by
      show (owed d l + tallyAt (tcell d t) () (kamt (tk t))) (kcell (c, k)) () = _
      rw [Pi.add_apply, Finsupp.add_apply, tallyAt_apply]
      congr 1
      by_cases h1 : d = (pe t).symm c
      · by_cases h2 : tk t = k
        · subst h1 h2
          rw [if_pos ⟨by show kcell _ = kcell _; rw [Equiv.apply_symm_apply], rfl⟩, if_pos rfl, if_pos rfl]
        · rw [if_neg fun h => h2 (congrArg Prod.snd (kcell_inj h.1)).symm, if_pos h1, if_neg h2]
      · rw [if_neg fun h => h1 (by rw [Equiv.eq_symm_apply]; exact (congrArg Prod.fst (kcell_inj h.1)).symm), if_neg h1]
    rw [Finset.sum_congr rfl fun d _ => h d, Finset.sum_add_distrib, ih, Finset.sum_ite_eq' Finset.univ, if_pos (Finset.mem_univ _), List.countP_cons]
    by_cases h2 : tk t = k
    · simp [h2, Nat.add_mul]
    · simp [h2]

/-- A device pays the barrier three times and every other cell that it pays once. -/
theorem paid_count : (paid.all fun k => decide (order.countP (fun t => decide (tk t = k)) = if k = .inr (.inl ()) then 3 else 1)) = true := by decide +kernel
/-- No key that is waited for on credit is listed twice. -/
theorem paid_nodup : paid.Nodup := by decide +kernel

/-- What all devices together pay to a cell is what it expects. -/
theorem paid_amount (k : CK) (hk : k ∈ paid) : order.countP (fun t => decide (tk t = k)) * kamt k = kexp k := by
  have h := of_decide_eq_true (List.all_eq_true.mp paid_count k hk)
  rw [h]
  rcases k with s | u | x
  · rfl
  · rfl
  · exact (congrArg (· * N) (if_neg (by intro h; cases h))).trans (Nat.one_mul _)

/-- So the credit that the launch gives for a cell is what it expects. -/
theorem launch_credit (c : Dev nD) (k : CK) (hk : k ∈ paid) :
    tallyOn (kcell (c, k)) (launchCredit (Pipeline.owing fun d => owed d order) 0 (kcell (c, k))) = (tallyAt (kcell (c, k)) () (kexp k) : CellTallies nD τ sig Unit) := by
  unfold tallyAt; refine congrArg _ (Finsupp.ext fun u => ?_)
  rw [Pipeline.launchCredit_owing, Finsupp.single_eq_same]
  exact (owed_sum order c k).trans (paid_amount k hk)

/-- A device is dealt the credit to wait for what its peers owe it. -/
theorem credits (c : Dev nD) : (Pipeline.launchCred (fun d => owed d order) c : sProp 𝕄) ⊢ credAll c := by
  unfold Pipeline.launchCred credAll
  rw [show (bigSepL paid fun k => credK c k : sProp 𝕄) = bigSep (paid.toFinset.map ⟨csem, fun _ _ h => csem_inj h⟩)
      (fun sm => cred (tallyOn ((c : Thread nD τ), sm) (launchCredit (Pipeline.owing fun d => owed d order) 0 ((c : Thread nD τ), sm)))) from ?_]
  · exact bigSep_subset (Finset.subset_univ _)
  rw [BI.bigSep_map, ← bigSep_eq_bigSepL_of_eq paid rfl paid_nodup]
  refine bigSep_congr fun k hk => ?_
  exact (congrArg cred (launch_credit c k (List.mem_toFinset.mp hk))).symm

/-! ## Closing the cells -/

/-- At the end every cell is closed: its counter, at zero, is the device's again. -/
theorem close_cells (K : Dev nD × CK → ℕ) (c : Dev nD) : iprop(records m K ∗ posAll c 1) ⊢ (|={Set.univ}=> zeros c : sProp 𝕄) := by
  unfold posAll zeros
  refine (with_persistent (R := records m K) (Ψ := fun k => iprop(|={Set.univ}=> semVal (kcell (c, k)) 0)) fun k _ => ?_).trans (bigSep_fupd _ _)
  unfold posK
  iintro ⟨#H, Hp⟩
  imod (Rounds.cell_close ER (sched m) (Set.mem_univ (K (c, k))) (fun h => h) (R := 1) (duties_later m (kcell (c, k)))) $$ [Hp] with Hz
  · isplitr; · iapply (inv_at m K (c, k)); iexact H
    iexact Hp
  imodintro
  iexact Hz

end Cert.KernelProof

end
-- ==== Proof.Run.lean ====
/-
# The run: the kernel on all sixteen devices

From any memory with every counter at zero the kernel ends, each device's result holds `outAt`, the arguments are as
they were and every counter is back at zero.
-/
module

public import proofs.«01_k».proof.Proof.Launch

@[expose] public section

set_option maxRecDepth 16384
set_option backward.proofsInPublic true

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at launch. -/
def s₀ : MemSt nD τ sig (Elt F) := ⟨m, fun _ => 0, ρ⟩

/-! ## What the pipeline around the body holds -/

/-- What the device has of the protocol before the body, -/
def start (c : Dev nD) : sProp 𝕄 := iprop(dealt m c ∗ levAts L lv ∗ credAll c)
/-- its scratch buffers, -/
def scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))
/-- and what it holds before and after the body. -/
def before (c : Dev nD) : sProp 𝕄 := iprop(start m c ∗ scratch c)
/-- The counters at zero and the scratch buffers. -/
def after (c : Dev nD) : sProp 𝕄 := iprop(zeros c ∗ scratch c)

/-- What the pipeline is told of device `c`: its arrays at the start, what each staging buffer holds after the body, and what the body starts and ends with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => gs m c
    | ⟨2, _⟩ => outAt m c
  Φ t := match t with
    | ⟨0, _⟩ => before m c
    | ⟨_ + 1, _⟩ => after c
  q _ := fullShare
  owed t := match t with
    | ⟨0, _⟩ => owed c order
    | ⟨_ + 1, _⟩ => 0

/-- A staging buffer holding `X`. -/
abbrev held (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- A whole buffer at known contents, in the two ways of saying it. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- What a body starts with, staging buffers included, -/
def bodyPre (c : Dev nD) : sProp 𝕄 :=
  iprop(before m c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
/-- and what it ends with. -/
def bodyPost (c : Dev nD) : sProp 𝕄 :=
  iprop(after c ∗ (dats m ρ 0 c).owesAt () t0_0.succ ∗ held c cc0_stg0_0 (xs m c) ∗ held c cc0_stg1_0 (gs m c) ∗ held c cc0_stg2_0 (outAt m c))

/-- The records are the cells and the levels. -/
theorem records_intro (K : Dev nD × CK → ℕ) : iprop(cellRecs m K ∗ levAts L lv) ⊢ records m K := by
  unfold records cellRecs; exact .rfl

/-- The end of a device's body: its cells closed, what it holds put away. -/
theorem body_end (K : Dev nD × CK → ℕ) (c : Dev nD) : iprop(records m K ∗ endRes m c) ⊢ |={Set.univ}=> bodyPost m ρ c := by
  unfold endRes
  iintro ⟨#HR, HO, HP, Hx, Hg, Ho, Hzs, Hzr, Hgs, Hgr⟩
  imod (close_cells m K c) $$ [HP] with Hz
  · isplitr; · iexact HR
    iexact HP
  imodintro
  unfold bodyPost after scratch
  isplitl [Hz Hzs Hzr Hgs Hgr]
  · isplitl [Hz]; · iexact Hz
    isplitl [Hzs]; · iapply (whole_of_any (F := F) c cc0_scratch0); iexact Hzs
    isplitl [Hzr]; · iapply (whole_of_any (F := F) c cc0_scratch1); iexact Hzr
    isplitl [Hgs]; · iapply (whole_of_any (F := F) c cc0_scratch2); iexact Hgs
    iapply (whole_of_any (F := F) c cc0_scratch3); iexact Hgr
  isplitl [HO]
  · unfold Dat.owesAt Pipeline.owesWithin
    rw [show (dats m ρ 0 c).owed t0_0.succ = owed c (order.drop 18) from rfl]
    unfold ol owesL
    icases HO with ⟨%W, HO⟩
    iexists W
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Ho

/-- A device's body, from the one to the other. -/
theorem body_pre_post (c : Dev nD) :
    bodyPre m ρ c ⊢ WP c (cc0_body xM (Memref.isWhole_whole _) gM (Memref.isWhole_whole _) oM (Memref.isWhole_whole _) zsM (Memref.isWhole_whole _) zrM (Memref.isWhole_whole _) gsM (Memref.isWhole_whole _) grM (Memref.isWhole_whole _) cc0_scratch4 cc0_scratch5 cc0_scratch6 cc0_scratch7 cc0_scratch8) fun _ => bodyPost m ρ c := by
  unfold bodyPre before start dealt scratch
  iintro ⟨⟨⟨⟨%K, #HR, HP, HT⟩, #HL, HC⟩, Hzs, Hzr, Hgs, Hgr⟩, HO, ⟨%dx, %fx, %hx, Hx⟩, ⟨%dg, %fg, %hg, Hg⟩, ⟨%d, %fo, -, Ho⟩⟩
  have hx' : fx = xs m c := by rw [hx]; unfold Dat.before; rw [if_pos (fetch0_0 t0_0)]; rfl
  have hg' : fg = gs m c := by rw [hg]; unfold Dat.before; rw [if_pos (fetch0_1 t0_0)]; rfl
  subst hx' hg'
  icases Hzs with ⟨%fz, Hzs⟩
  ihave #HK := (records_intro m K) $$ []
  · isplitr; · iexact HR
    iexact HL
  iapply wp_fupd
  iapply (body_run m K c fo fz fun _ => iprop(|={Set.univ}=> bodyPost m ρ c))
  isplitr; · iexact HK
  isplitl [HO]
  · unfold Dat.owesAt Pipeline.owesWithin ol owesL
    rw [show (dats m ρ 0 c).owed t0_0.castSucc = owed c (order.drop 0) from rfl]
    icases HO with ⟨%W, -, HO⟩
    iexists W
    iexact HO
  isplitl [HP]; · iexact HP
  isplitl [HT]; · iexact HT
  isplitl [HC]; · iexact HC
  isplitl [Hx]; · iexact Hx
  isplitl [Hg]; · iexact Hg
  isplitl [Ho]; · iexact Ho
  isplitl [Hzs]; · iexact Hzs
  isplitl [Hzr]; · iapply (any_of_whole (F := F) c cc0_scratch1); iexact Hzr
  isplitl [Hgs]; · iapply (any_of_whole (F := F) c cc0_scratch2); iexact Hgs
  isplitl [Hgr]; · iapply (any_of_whole (F := F) c cc0_scratch3); iexact Hgr
  iintro HE
  iapply (body_end m ρ K c)
  isplitr; · iexact HK
  iexact HE

/-- The three windows, one by one. -/
theorem windows (Φ : Fin cfg0.W → sProp 𝕄) : bigSep Finset.univ Φ = iprop(Φ (0 : Fin 3) ∗ Φ (1 : Fin 3) ∗ Φ (2 : Fin 3)) := bigSep_W0 Φ

/-- What the pipeline asks of the body on device `c`. -/
theorem body_obligation (c : Dev nD) : BodyObligation (dats (F := F) m ρ 0 c) (defs₀ (F := F)) 𝒱₀ () Set.univ := fun t => by
  rw [fin_N0 t, windows, windows]
  simp only [owns_held]
  exact body_pre_post m ρ c

/-! ## The launch's side conditions -/

/-- Every array is held whole. -/
theorem share_full (c : Dev nD) (w : Fin cfg0.W) : (dats m ρ 0 c).share w = fullShare := by unfold Dat.share; split <;> rfl

/-- What the launch deals is what a device starts with; -/
theorem start_intro (c : Dev nD) :
    iprop(Pipeline.unscopedRestP Pipeline.Prefetch.none cfg0.spec c (fun b => m ((c : Thread nD τ).loc b)) ∗ levAts L lv
        ∗ Pipeline.launchCred (fun d => owed d order) c ∗ prngReg c (ρ c) ∗ dealt m c)
      ⊢ |={Set.univ}=> iprop(start m c ∗ emp) := by
  iintro ⟨-, HL, HC, -, HD⟩
  imodintro
  unfold start
  isplitl
  · isplitl [HD]; · iexact HD
    isplitl [HL]; · iexact HL
    iapply (credits (F := F) c); iexact HC
  · iempintro

/-- with its scratch buffers it is what the body starts with; -/
theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs]; · iexact Hs
  iexact Hr

/-- and what the body ends with is what the launch takes back. -/
theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after scratch
  rw [zeros_eq]
  iintro ⟨⟨Ho, Hu⟩, Hr⟩
  isplitl [Hu]; · iexact Hu
  isplitl [Ho]; · iexact Ho
  iexact Hr

/-- The staging copies wait below everything the device owes. -/
theorem waits (c : Dev nD) : (levAts L lv : sProp 𝕄) ⊢ Pipeline.cellsWaits cfgs (dats m ρ) () 0 c :=
  Pipeline.cellsWaits_intro cfgs (dats m ρ) () 0 c fun w s t => by
    have hs : ∀ (w : Fin 3) (s : Fin (spec0 w).nbuf), ((dec (.dma ((spec0 w).sem s))).map klev).getD 0 ≤ 0 := by decide +kernel
    rcases t with ⟨_ | _, ht⟩
    · exact mayWait_owed c order _ 0 (hs w s) (by decide +kernel)
    · exact mayWait_owed c [] _ 0 (hs w s) (by decide +kernel)

/-! ## The run -/

/-- An array as the pipeline leaves it. -/
def finalA (c : Dev nD) (w : Fin cfg0.W) : Buf (Elt F) ((cfg0.win w).arr.view.loc (c : Thread nD τ)) := (dats m ρ 0 c).arrAt w cfg0.N

/-- Every run of the kernel ends, with each window's array as the pipeline leaves it and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := fun d => owed d order) (howed₀ := fun _ => rfl) (howedN := fun _ => rfl)
    (L := L) (lv := lv) (hL := L_of_ne) (hwaits := waits m ρ)
    (G := share0 m) (G' := dealt m) (u₀ := u₀)
    (hu₀ := by
      unfold u₀
      iintro Hu
      ihave H := (ownU_pair _ _) $$ Hu
      icases H with ⟨HP, HX⟩
      imod (mint_all m) $$ HX with HG
      imodintro
      isplitl [HP]; · iexact HP
      iexact HG)
    (hglob := open_all m)
    (hA := fun _ _ => rfl) (hpf := fun _ k => k.elim0)
    (X := start m) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu]; · iexact Hu
      iexact HS)
    (hQ := fun _ h hs => ⟨fun c w => (h c).1 w, sem_eq_zero hs fun c => (h c).2.2⟩)

/-- The operand is as it was, -/
theorem final_x (c : Dev nD) : finalA m ρ c (0 : Fin 3) = m ((c : Thread nD τ).loc main_arg0) := (dats (F := F) m ρ 0 c).arrAt_in (0 : Fin 3) rfl _
/-- the scale row too, -/
theorem final_g (c : Dev nD) : finalA m ρ c (1 : Fin 3) = m ((c : Thread nD τ).loc main_arg1) := (dats (F := F) m ρ 0 c).arrAt_in (1 : Fin 3) rfl _
/-- The result's one block is the whole array. -/
theorem emb_o (i : S512x512.Idx) : (win0_2.blk t0_0).view.emb i = i := by
  funext a
  apply Fin.ext
  show (win0_2.index t0_0 a * _ + 1 * (i a).val) = (i a).val
  rw [show win0_2.index t0_0 a = 0 from rfl, Nat.zero_mul, Nat.zero_add, Nat.one_mul]
/-- and the result is as named. -/
theorem final_o (c : Dev nD) : finalA m ρ c (2 : Fin 3) = outAt m c := by
  refine (dats (F := F) m ρ 0 c).arrAt_eq_of_cover (2 : Fin 3) (outAt m c) (fun t _ => ?_) (fun i => ⟨t0_0, flush0_2 _, ?_⟩)
  · rw [fin_N0 t]
    funext i
    rw [View.read_apply]
    exact (congrArg (outAt m c) (emb_o i)).symm
  · have h := (win0_2.blk t0_0).view.emb_mem_set i
    rw [emb_o] at h
    exact h

/-- Every run of the kernel ends, with each device's result at `outAt`, its arguments as they were and every counter at
    zero. -/
theorem run_main : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_o m ρ c), (h.1 c (0 : Fin 3)).trans (final_x m ρ c), (h.1 c (1 : Fin 3)).trans (final_g m ρ c)⟩, h.2⟩) (run_arrays m ρ)

end Cert.KernelProof

end
-- ==== Proof.Value.lean ====
/-
# What the result holds, on the extended reals

Every row of every device's result is the root-mean-square normalised sum of the four devices' partial rows.
-/
module

public import proofs.«01_k».proof.Proof.Cont
public import Idealize.ShloMosaic.Lib.Pointwise
public import Idealize.ShloMosaic.Lib.ValueIdx
public import Idealize.ShloMosaic.Lib.Layout

@[expose] public section

set_option maxRecDepth 16384

noncomputable section

namespace Cert.KernelProof

open Cert.KernelIdeal Cert.KernelIdeal.Gen

open Idealize.ShloMosaic
open Idealize.ShloMosaic.TcCoe
open scoped BigOperators

/-- A row divided by its root mean square, scaled entry by entry. -/
def rmsRow (Y g : Fin 512 → EReal) (k : Fin 512) : EReal :=
  Ideal.div (Y k) (Ideal.sqrt (Ideal.div (∑ l, Y l * Y l) (Ideal.ofBits .f32 0x44000000#32) + Ideal.ofBits .f32 0x358637BD#32)) * g k

/-- The first half's normalisation, at an entry. -/
theorem pay7_apply (a : FVec Ideal S64x512 .f32) (z : Vec Ideal S1x1x64x512 .bf16) (g : Vec Ideal S1x512 .bf16) (r : Fin 64) (k : Fin 512) :
    k0_pay7 a z g (ix2 r k) = rmsRow (fun l => a (ix2 r l) + z (ix4 (0 : Fin 1) (0 : Fin 1) r l)) (fun l => g (ix2 (0 : Fin 1) l)) k := by
  unfold k0_pay7 rmsRow
  pointwise

/-- The second half's normalisation, at an entry. -/
theorem pay11_apply (a : FVec Ideal S64x512 .f32) (z : Vec Ideal S1x1x64x512 .bf16) (g : Vec Ideal S1x512 .bf16) (r : Fin 64) (k : Fin 512) :
    k0_pay11 a z g (ix2 r k) = rmsRow (fun l => a (ix2 r l) + z (ix4 (0 : Fin 1) (0 : Fin 1) r l)) (fun l => g (ix2 (0 : Fin 1) l)) k := by
  unfold k0_pay11 rmsRow
  pointwise

/-- The first half's sum of the kept rows and the first two received, at an entry. -/
theorem acc0_apply (x : Vec Ideal S1x128x512 .bf16) (z z' : Vec Ideal S1x1x64x512 .bf16) (r : Fin 64) (k : Fin 512) :
    k0_pay6 (k0_pay5 x) z z' (ix2 r k)
      = (x (ix3 (0 : Fin 1) (⟨r.val, by omega⟩ : Fin 128) k) : EReal) + z (ix4 (0 : Fin 1) (0 : Fin 1) r k) + z' (ix4 (0 : Fin 1) (0 : Fin 1) r k) := by
  unfold k0_pay6 k0_pay5
  pointwise

/-- The second half's sum of the kept rows and the first two received, at an entry. -/
theorem acc1_apply (x : Vec Ideal S1x128x512 .bf16) (z z' : Vec Ideal S1x1x64x512 .bf16) (r : Fin 64) (k : Fin 512) :
    k0_pay10 (k0_pay9 x) z z' (ix2 r k)
      = (x (ix3 (0 : Fin 1) (⟨64 + r.val, by omega⟩ : Fin 128) k) : EReal) + z (ix4 (0 : Fin 1) (0 : Fin 1) r k) + z' (ix4 (0 : Fin 1) (0 : Fin 1) r k) := by
  unfold k0_pay10 k0_pay9
  pointwise

variable (m : (ℓ : Loc nD τ sig) → Buf (Elt Ideal) ℓ)

/-- The operand's one block is the whole array, -/
theorem xs_apply (c : Dev nD) (i : S16x128x512.Idx) : (xs m c : S16x128x512.Idx → EReal) i = (m ((c : Thread nD τ).loc main_arg0) : S16x128x512.Idx → EReal) i := by
  refine congrArg (m ((c : Thread nD τ).loc main_arg0) : S16x128x512.Idx → EReal) (funext fun a => Fin.ext ?_)
  show (win0_0.index (0 : Fin 1) a * _ + 1 * (i a).val) = (i a).val
  rw [show win0_0.index (0 : Fin 1) a = 0 from rfl, Nat.zero_mul, Nat.zero_add, Nat.one_mul]

/-- and the scale row's is too. -/
theorem gs_apply (c : Dev nD) (i : S1x512.Idx) : (gs m c : S1x512.Idx → EReal) i = (m ((c : Thread nD τ).loc main_arg1) : S1x512.Idx → EReal) i := by
  refine congrArg (m ((c : Thread nD τ).loc main_arg1) : S1x512.Idx → EReal) (funext fun a => Fin.ext ?_)
  show (win0_1.index (0 : Fin 1) a * _ + 1 * (i a).val) = (i a).val
  rw [show win0_1.index (0 : Fin 1) a = 0 from rfl, Nat.zero_mul, Nat.zero_add, Nat.one_mul]

/-- Device `c`'s partial rows of block `b`. -/
def part (c : Dev nD) (b : Fin 16) (r : Fin 128) (k : Fin 512) : EReal := (m ((c : Thread nD τ).loc main_arg0) : S16x128x512.Idx → EReal) (ix3 b r k)

/-- A block of the operand, read at an entry. -/
theorem slab_apply (c : Dev nD) (off : Fin 3 → ℕ) (inb : ∀ a, off a + S1x128x512.size a ≤ S16x128x512.size a) (b : Fin 16)
    (h0 : off 0 = b.val) (h1 : off 1 = 0) (h2 : off 2 = 0) (r : Fin 128) (k : Fin 512) :
    (xM.view.readAt (Elt Ideal) (Rect.unit (s := S16x128x512) off S1x128x512.size inb).toLoadRect (xs m c) : S1x128x512.Idx → EReal) (ix3 (0 : Fin 1) r k)
      = part m c b r k := by
  refine (show _ = (xs m c : S16x128x512.Idx → EReal) ((Rect.unit (s := S16x128x512) off S1x128x512.size inb).emb (ix3 (0 : Fin 1) r k)) from rfl).trans ?_
  rw [xs_apply]
  refine congrArg (m ((c : Thread nD τ).loc main_arg0) : S16x128x512.Idx → EReal) (funext fun a => Fin.ext ?_)
  match a with
  | ⟨0, _⟩ => show off 0 + 1 * 0 = b.val; rw [h0, Nat.mul_zero, Nat.add_zero]
  | ⟨1, _⟩ => show off 1 + 1 * r.val = r.val; rw [h1, Nat.zero_add, Nat.one_mul]
  | ⟨2, _⟩ => show off 2 + 1 * k.val = k.val; rw [h2, Nat.zero_add, Nat.one_mul]

/-- The block that device `c` owns after the reduction. -/
def own (c : Dev nD) : Fin 16 := ⟨4 * (c.val % 4) + c.val / 4, by have := c.isLt; simp only [nD] at *; omega⟩

/-- The block that device `c` keeps is the one it owns. -/
theorem xo_apply (c : Dev nD) (r : Fin 128) (k : Fin 512) : (xo m c (ix3 (0 : Fin 1) r k) : EReal) = part m c (own c) r k := by
  have hc : c.val < 16 := c.isLt
  refine slab_apply m c _ _ (own c) ?_ ?_ ?_ r k <;> rw [k0_off2_eq]
  · show 4 * (c.val % 4) + 2 * (c.val / 8) + c.val / 4 % 2 = 4 * (c.val % 4) + c.val / 4; omega
  · rfl
  · rfl

/-- What device `c` sends in slot `s` is the block that the receiver owns. -/
theorem x1_apply (c : Dev nD) (s : Fin 3) (r : Fin 128) (k : Fin 512) : (x1 m c s (ix3 (0 : Fin 1) r k) : EReal) = part m c (own (zp (s.val + 1) c)) r k := by
  have hc : c.val < 16 := c.isLt
  refine slab_apply m c _ _ (own (zp (s.val + 1) c)) ?_ ?_ ?_ r k <;> rw [k0_off1_eq]
  · show 4 * ((c.val % 4 + s.val + 1) % 4) + 2 * (c.val / 8) + c.val / 4 % 2
      = 4 * ((4 * (c.val / 4) + (c.val % 4 + (s.val + 1)) % 4) % 4) + (4 * (c.val / 4) + (c.val % 4 + (s.val + 1)) % 4) / 4
    omega
  · rfl
  · rfl

/-- A sent half, read at an entry. -/
theorem zC_apply (c : Dev nD) (s : Fin 3) (h : Fin 2) (r : Fin 64) (k : Fin 512) :
    (zC m c s h (ix4 (0 : Fin 1) (0 : Fin 1) r k) : EReal) = x1 m c s (ix3 (0 : Fin 1) (⟨64 * h.val + r.val, by omega⟩ : Fin 128) k) := by
  have e : (r32 s h).emb (ix4 (0 : Fin 1) (0 : Fin 1) r k) = ix4 s h r k := by
    funext a; refine Fin.ext ?_; rw [Rect.emb_apply]
    match a with
    | ⟨0, _⟩ => rfl
    | ⟨1, _⟩ => rfl
    | ⟨2, _⟩ => show 0 + 1 * r.val = r.val; omega
    | ⟨3, _⟩ => show 0 + 1 * k.val = k.val; omega
  have e' : (zC m c s h (ix4 (0 : Fin 1) (0 : Fin 1) r k) : EReal) = slab m c s (ix4 (0 : Fin 1) h r k) :=
    (congrArg (zW m c) e).trans rfl
  rw [e']
  have P : ∀ x : Vec Ideal S1x128x512 .bf16, (shapeCast S1x2x64x512 (shapeCast S2x64x512 (shapeCast S128x512 x shapeCasts_S1x128x512_S128x512) shapeCasts_S128x512_S2x64x512) shapeCasts_S2x64x512_S1x2x64x512 : S1x2x64x512.Idx → EReal) (ix4 (0 : Fin 1) h r k)
      = x (ix3 (0 : Fin 1) (⟨64 * h.val + r.val, by omega⟩ : Fin 128) k) := by
    intro x
    refine (shapeCast_apply _ _ _ (ix3 h r k) ?_).trans ((shapeCast_apply _ _ _ (ix2 (⟨64 * h.val + r.val, by omega⟩ : Fin 128) k) ?_).trans (shapeCast_apply _ _ _ _ ?_))
    · rw [Shape.rowMajor_val_three, Shape.rowMajor_val_four]
      show (h.val * 64 + r.val) * 512 + k.val = ((0 * 2 + h.val) * 64 + r.val) * 512 + k.val; omega
    · rw [Shape.rowMajor_val_two, Shape.rowMajor_val_three]
      show (64 * h.val + r.val) * 512 + k.val = (h.val * 64 + r.val) * 512 + k.val; omega
    · rw [Shape.rowMajor_val_three, Shape.rowMajor_val_two]
      show (0 * 128 + (64 * h.val + r.val)) * 512 + k.val = (64 * h.val + r.val) * 512 + k.val; omega
  match s with
  | 0 => show k0_pay2 (k0_pay1 (x1 m c 0)) _ = _; unfold k0_pay2 k0_pay1; exact P (x1 m c 0)
  | 1 => show k0_pay3 (x1 m c 1) _ = _; unfold k0_pay3; exact P (x1 m c 1)
  | 2 => show k0_pay4 (x1 m c 2) _ = _; unfold k0_pay4; exact P (x1 m c 2)

/-- What device `c` receives in slot `s` is the block it owns, of the device `3 - s` places on. -/
theorem zL_apply (c : Dev nD) (s : Fin 3) (h : Fin 2) (r : Fin 64) (k : Fin 512) :
    (zL m c s h (ix4 (0 : Fin 1) (0 : Fin 1) r k) : EReal) = part m (zp (3 - s.val) c) (own c) (⟨64 * h.val + r.val, by omega⟩ : Fin 128) k := by
  refine (zC_apply m _ s h r k).trans ((x1_apply m _ s _ k).trans ?_)
  rw [zp_forth]

/-- Device number `z` of the line that `c` sums over. -/
def lineDev (c : Dev nD) (z : Fin 4) : Dev nD := ⟨4 * (c.val / 4) + z.val, by have := c.isLt; simp only [nD] at *; omega⟩

/-- Adding a device's own term and those of the three places after it adds the four. -/
theorem four_sum (c : Dev nD) (f : Dev nD → EReal) :
    f c + f (zp 3 c) + f (zp 2 c) + f (zp 1 c) = ∑ z : Fin 4, f (lineDev c z) := by
  have hc : c.val < 16 := c.isLt
  have L : ∀ d z, d.val = 4 * (c.val / 4) + (z : Fin 4).val → d = lineDev c z := fun d z e => Fin.ext e
  rw [Fin.sum_univ_four]
  obtain h | h | h | h : c.val % 4 = 0 ∨ c.val % 4 = 1 ∨ c.val % 4 = 2 ∨ c.val % 4 = 3 := by omega
  · rw [← L c 0 (by show c.val = _ + 0; omega), ← L (zp 1 c) 1 (by show _ + (c.val % 4 + 1) % 4 = _ + 1; omega),
      ← L (zp 2 c) 2 (by show _ + (c.val % 4 + 2) % 4 = _ + 2; omega), ← L (zp 3 c) 3 (by show _ + (c.val % 4 + 3) % 4 = _ + 3; omega)]
    ac_rfl
  · rw [← L (zp 3 c) 0 (by show _ + (c.val % 4 + 3) % 4 = _ + 0; omega), ← L c 1 (by show c.val = _ + 1; omega),
      ← L (zp 1 c) 2 (by show _ + (c.val % 4 + 1) % 4 = _ + 2; omega), ← L (zp 2 c) 3 (by show _ + (c.val % 4 + 2) % 4 = _ + 3; omega)]
    ac_rfl
  · rw [← L (zp 2 c) 0 (by show _ + (c.val % 4 + 2) % 4 = _ + 0; omega), ← L (zp 3 c) 1 (by show _ + (c.val % 4 + 3) % 4 = _ + 1; omega),
      ← L c 2 (by show c.val = _ + 2; omega), ← L (zp 1 c) 3 (by show _ + (c.val % 4 + 1) % 4 = _ + 3; omega)]
    ac_rfl
  · rw [← L (zp 1 c) 0 (by show _ + (c.val % 4 + 1) % 4 = _ + 0; omega), ← L (zp 2 c) 1 (by show _ + (c.val % 4 + 2) % 4 = _ + 1; omega),
      ← L (zp 3 c) 2 (by show _ + (c.val % 4 + 3) % 4 = _ + 2; omega), ← L c 3 (by show c.val = _ + 3; omega)]
    ac_rfl

/-- The rows that device `c` makes: the sum of its line's partial rows of its block, normalised. -/
theorem outM_apply (c : Dev nD) (h : Fin 2) (r : Fin 64) (k : Fin 512) :
    (outM m c h (ix2 r k) : EReal)
      = rmsRow (fun l => ∑ z : Fin 4, part m (lineDev c z) (own c) (⟨64 * h.val + r.val, by omega⟩ : Fin 128) l)
          (fun l => (m ((c : Thread nD τ).loc main_arg1) : S1x512.Idx → EReal) (ix2 (0 : Fin 1) l)) k := by
  match h with
  | 0 =>
    refine (pay7_apply _ _ _ r k).trans ?_
    congr 1
    · funext l
      rw [acc0_apply, xo_apply, zL_apply, zL_apply, zL_apply]
      refine Eq.trans ?_ (four_sum c fun d => part m d (own c) (⟨64 * (0 : Fin 2).val + r.val, by omega⟩ : Fin 128) l)
      rw [show (⟨r.val, by omega⟩ : Fin 128) = ⟨64 * (0 : Fin 2).val + r.val, by omega⟩ from Fin.ext (by show r.val = 64 * 0 + r.val; omega)]
      rfl
    · funext l; exact gs_apply m c _
  | 1 =>
    refine (pay11_apply _ _ _ r k).trans ?_
    congr 1
    · funext l
      rw [acc1_apply, xo_apply, zL_apply, zL_apply, zL_apply]
      exact four_sum c fun d => part m d (own c) (⟨64 * (1 : Fin 2).val + r.val, by omega⟩ : Fin 128) l
    · funext l; exact gs_apply m c _

/-- The rows that device `c` sends are those it makes: a change of float format is the identity here. -/
theorem gC_apply (c : Dev nD) (h : Fin 2) (r : Fin 64) (k : Fin 512) : (gC m c h (ix3 (0 : Fin 1) r k) : EReal) = outM m c h (ix2 r k) := by
  match h with
  | 0 => show (k0_pay8 (m0 m c) (ix3 (0 : Fin 1) r k) : EReal) = m0 m c (ix2 r k); unfold k0_pay8; pointwise
  | 1 =>
    show (k0_pay12 (k0_pay10 (k0_pay9 (xo m c)) (zL m c 0 1) (zL m c 1 1)) (zL m c 2 1) (gs m c) (ix3 (0 : Fin 1) r k) : EReal) = m1 m c (ix2 r k)
    unfold k0_pay12 m1; pointwise

/-- The rows received in slot `s` are those that the device `3 - s` places on made. -/
theorem outG_apply (c : Dev nD) (s : Fin 3) (h : Fin 2) (r : Fin 64) (k : Fin 512) :
    (outG m c s h (ix2 r k) : EReal) = outM m (qp (3 - s.val) c) h (ix2 r k) := by
  have R : (gL m c s h (ix4 (0 : Fin 1) (0 : Fin 1) r k) : EReal) = outM m (qp (3 - s.val) c) h (ix2 r k) := by
    refine Eq.trans ?_ (gC_apply m (qp (3 - s.val) c) h r k)
    refine congrArg (gC m (qp (3 - s.val) c) h) ?_
    refine Shape.reshapeEquiv_eq_of_rowMajor _ ?_
    have e : (Shape.reshapeEquiv squeezes_S1x1x64x512_S64x512.numel_eq).symm (ix4 (0 : Fin 1) (0 : Fin 1) r k) = ix2 r k := by
      rw [Equiv.symm_apply_eq]
      refine (Shape.reshapeEquiv_eq_of_rowMajor _ ?_).symm
      rw [Shape.rowMajor_val_four, Shape.rowMajor_val_two]
      show ((0 * 1 + 0) * 64 + r.val) * 512 + k.val = r.val * 512 + k.val; omega
    rw [e, Shape.rowMajor_val_three, Shape.rowMajor_val_two]
    show (0 * 64 + r.val) * 512 + k.val = r.val * 512 + k.val; omega
  rw [← R]
  match s, h with
  | 0, 0 => show k0_pay13 (gL m c 0 0) (ix2 r k) = _; unfold k0_pay13; pointwise
  | 1, 0 => show k0_pay14 (gL m c 1 0) (ix2 r k) = _; unfold k0_pay14; pointwise
  | 2, 0 => show k0_pay15 (gL m c 2 0) (ix2 r k) = _; unfold k0_pay15; pointwise
  | 0, 1 => show k0_pay16 (gL m c 0 1) (ix2 r k) = _; unfold k0_pay16; pointwise
  | 1, 1 => show k0_pay17 (gL m c 1 1) (ix2 r k) = _; unfold k0_pay17; pointwise
  | 2, 1 => show k0_pay18 (gL m c 2 1) (ix2 r k) = _; unfold k0_pay18; pointwise

/-- The device of `c`'s gathering four at place `q`. -/
def gatherDev (c : Dev nD) (q : Fin 4) : Dev nD := ⟨4 * q.val + c.val % 4, by simp only [nD] at *; omega⟩

/-- Row block `p` of every result is what the device at place `p` among the gathering four made. -/
theorem outAt_apply (c : Dev nD) (i : Fin 512) (k : Fin 512) :
    (outAt m c (ix2 i k) : EReal) = outM m (gatherDev c ⟨i.val / 128, by omega⟩) ⟨i.val % 128 / 64, by omega⟩ (ix2 (⟨i.val % 64, by omega⟩ : Fin 64) k) := by
  have hc : c.val < 16 := c.isLt
  have E : ∀ d : Dev nD, d = gatherDev c ⟨i.val / 128, by omega⟩ → (outM m d ⟨i.val % 128 / 64, by omega⟩ (ix2 (⟨i.val % 64, by omega⟩ : Fin 64) k) : EReal)
      = outM m (gatherDev c ⟨i.val / 128, by omega⟩) ⟨i.val % 128 / 64, by omega⟩ (ix2 (⟨i.val % 64, by omega⟩ : Fin 64) k) := fun d e => by rw [e]
  unfold outAt
  show (if i.val / 128 = c.val / 4 then _ else _) = _
  split
  · next e => exact E c (Fin.ext (by show c.val = 4 * (i.val / 128) + c.val % 4; omega))
  · next e =>
    refine (outG_apply m c _ _ (⟨i.val % 64, by omega⟩ : Fin 64) k).trans (E _ (Fin.ext ?_))
    show 4 * ((c.val / 4 + (3 - (c.val / 4 + 3 - i.val / 128) % 4 % 3)) % 4) + c.val % 4 = 4 * (i.val / 128) + c.val % 4
    have hi := i.isLt
    omega

/-- Row `row` of the whole sum: block `16 z + row / 128`'s row `row % 128`, over the four `z`. -/
def sumRow (x : (⟨3, ![64, 128, 512]⟩ : Shape).Idx → EReal) (row : Fin 2048) (k : Fin 512) : EReal :=
  ∑ z : Fin 4, x (ix3 (⟨16 * z.val + row.val / 128, by omega⟩ : Fin 64) (⟨row.val % 128, by omega⟩ : Fin 128) k)

/-- The whole result: every row of the sum, normalised. -/
def whole (x : (⟨3, ![64, 128, 512]⟩ : Shape).Idx → EReal) (g : (⟨2, ![1, 512]⟩ : Shape).Idx → EReal) : (⟨2, ![2048, 512]⟩ : Shape).Idx → EReal :=
  fun i => rmsRow (sumRow x (i 0)) (fun l => g (ix2 (0 : Fin 1) l)) (i 1)

/-- A device's place along the mesh's last axis. -/
theorem line_place (c : ℕ) : Layout.meshLin [2, 2, 4] c [2] = c % 4 := by
  show c / 1 % 4 * 1 + 0 = c % 4; omega

/-- If every device's operand is its block of the whole operand and its scale row the whole scale row, then every device's
    result is its block of the whole result. -/
theorem outAt_eq (x : (⟨3, ![64, 128, 512]⟩ : Shape).Idx → EReal) (g : (⟨2, ![1, 512]⟩ : Shape).Idx → EReal)
    (hx : ∀ c : Dev nD, (m ((c : Thread nD τ).loc main_arg0) : S16x128x512.Idx → EReal)
      = Layout.blockN ⟨3, ![16, 128, 512]⟩ ⟨3, ![64, 128, 512]⟩ (Layout.meshBlock [2, 2, 4] ![[2], [], []] c) x)
    (hg : ∀ c : Dev nD, (m ((c : Thread nD τ).loc main_arg1) : S1x512.Idx → EReal) = g) (c : Dev nD) :
    (outAt m c : S512x512.Idx → EReal) = Layout.blockN ⟨2, ![512, 512]⟩ ⟨2, ![2048, 512]⟩ (Layout.meshBlock [2, 2, 4] ![[2], []] c) (whole x g) := by
  funext j
  obtain ⟨i, k, rfl⟩ : ∃ (i : Fin 512) (k : Fin 512), j = ix2 i k := ⟨j 0, j 1, ValueIdx.eq_ix2 j⟩
  have hc : c.val < 16 := c.isLt
  have hi := i.isLt
  rw [outAt_apply, outM_apply]
  have cut : Layout.meshLin [2, 2, 4] c.val [2] = c.val % 4 := line_place c.val
  have e : ∀ h : Layout.TilesN ⟨2, ![512, 512]⟩ ⟨2, ![2048, 512]⟩ (fun b => Layout.cutSize [2, 2, 4] ((![[2], []] : Fin 2 → List ℕ) b)),
      h.idx (Layout.meshBlock [2, 2, 4] ![[2], []] c) (ix2 i k) = ix2 (⟨512 * (c.val % 4) + i.val, by omega⟩ : Fin 2048) k := by
    intro h; funext a; refine Fin.ext ?_; rw [Layout.TilesN.idx_val]
    match a with
    | ⟨0, _⟩ => show Layout.meshLin [2, 2, 4] c.val [2] * 512 + i.val = 512 * (c.val % 4) + i.val; rw [cut]; omega
    | ⟨1, _⟩ => show 0 * 512 + k.val = k.val; omega
  rw [Layout.blockN_apply, e]
  show rmsRow _ _ k = rmsRow (sumRow x (⟨512 * (c.val % 4) + i.val, by omega⟩ : Fin 2048)) (fun l => g (ix2 (0 : Fin 1) l)) k
  congr 1
  · funext l
    refine Finset.sum_congr rfl fun z _ => ?_
    have hz := z.isLt
    unfold part
    rw [hx, Layout.blockN_apply]
    refine congrArg x (funext fun a => Fin.ext ?_)
    rw [Layout.TilesN.idx_val]
    match a with
    | ⟨0, _⟩ =>
      show Layout.meshLin [2, 2, 4] (4 * ((4 * (i.val / 128) + c.val % 4) / 4) + z.val) [2] * 16 + (4 * ((4 * (i.val / 128) + c.val % 4) % 4) + (4 * (i.val / 128) + c.val % 4) / 4)
        = 16 * z.val + (512 * (c.val % 4) + i.val) / 128
      rw [line_place]; omega
    | ⟨1, _⟩ =>
      show 0 * 128 + (64 * (i.val % 128 / 64) + i.val % 64) = (512 * (c.val % 4) + i.val) % 128
      omega
    | ⟨2, _⟩ => show 0 * 512 + l.val = l.val; omega
  · funext l; rw [hg]

end Cert.KernelProof

end
-- ==== Proof.Ref.lean ====
/-
# What the reference's result holds, on the extended reals

The reference's composed term, at every entry, is the whole result that the kernel's devices hold in blocks.
-/
module

public import proofs.«01_k».proof.Proof.Value
public import proofs.«01_k».proof.Proof.Gen.ReferenceIdeal

@[expose] public section

set_option maxRecDepth 16384

noncomputable section

namespace Cert.KernelProof

open Cert.ReferenceIdeal Cert.ReferenceIdeal.Gen

open Idealize.ShloMosaic
open scoped BigOperators

/-- The reference's sum of the four partial arrays. -/
def refSum (x : FVec Ideal S64x128x512 .bf16) : FVec Ideal S2048x512 .f32 :=
  Host.reduceAdd (extf .f32 (shapeCast _ x shapeCasts_S64x128x512_S4x2048x512) bitsLt_bf16_f32) (constant S_ .f32 0x00000000#32) reducesTo_S4x2048x512_S2048x512_d0 h_S_

/-- The reference's result, as its program composes it. -/
def refOut (x : FVec Ideal S64x128x512 .bf16) (g : FVec Ideal S1x512 .bf16) : FVec Ideal S2048x512 .f32 :=
  mulf (Host.divf (refSum x) (broadcastInDim S2048x512 ![0,1] bcast_S2048x1_S2048x512_0_1 (Host.sqrt (addf (Host.divf (broadcastInDim S2048x1 ![0] bcast_S2048_S2048x1_0 (Host.reduceAdd (mulf (refSum x) (refSum x)) (constant S_ .f32 0x00000000#32) reducesTo_S2048x512_S2048_d1 h_S_)) (broadcastInDim S2048x1 ![] bcast_S_S2048x1 (constant S_ .f32 0x44000000#32))) (broadcastInDim S2048x1 ![] bcast_S_S2048x1 (constant S_ .f32 0x358637BD#32)))))) (broadcastInDim S2048x512 ![0,1] bcast_S1x512_S2048x512_0_1 (broadcastInDim S1x512 ![1] bcast_S512_S1x512_1 (extf .f32 (shapeCast _ g shapeCasts_S1x512_S512) bitsLt_bf16_f32)))

/-- The sum, at an entry. -/
theorem refSum_apply (x : FVec Ideal S64x128x512 .bf16) (row : Fin 2048) (k : Fin 512) : refSum x (ix2 row k) = sumRow x row k := by
  have E : ∀ z : Fin 4, (shapeCast S4x2048x512 x shapeCasts_S64x128x512_S4x2048x512 : S4x2048x512.Idx → EReal) (ix3 z row k)
      = x (ix3 (⟨16 * z.val + row.val / 128, by omega⟩ : Fin 64) (⟨row.val % 128, by omega⟩ : Fin 128) k) := by
    intro z
    refine shapeCast_apply _ _ _ _ ?_
    rw [Shape.rowMajor_val_three, Shape.rowMajor_val_three]
    show ((16 * z.val + row.val / 128) * 128 + row.val % 128) * 512 + k.val = (z.val * 2048 + row.val) * 512 + k.val
    omega
  unfold refSum sumRow
  simp only [← E]
  pointwise

/-- The reference's result is the whole result that the kernel's devices hold in blocks. -/
theorem refOut_eq (x : FVec Ideal S64x128x512 .bf16) (g : FVec Ideal S1x512 .bf16) : refOut x g = whole x g := by
  funext j
  obtain ⟨row, k, rfl⟩ : ∃ (row : Fin 2048) (k : Fin 512), j = ix2 row k := ⟨j 0, j 1, ValueIdx.eq_ix2 j⟩
  show _ = rmsRow (sumRow x row) (fun l => g (ix2 (0 : Fin 1) l)) k
  rw [show sumRow x row = fun l => refSum x (ix2 row l) from funext fun l => (refSum_apply x row l).symm]
  unfold refOut rmsRow
  generalize refSum x = Y
  pointwise

end Cert.KernelProof

end
-- ==== Proof.lean ====
/-
# The claims

The kernel's run is proved once for any floats and read here at the two kinds of floats; the reference's run is its
operations read in order. On the extended reals both end with the same result: the kernel's devices hold it in blocks.
-/
module

public import proofs.«01_k».proof.Proof.Gen.ReferenceIdeal.Run
public import proofs.«01_k».proof.Proof.Run
public import proofs.«01_k».proof.Proof.Ref
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

set_option maxRecDepth 16384

noncomputable section

namespace Cert.Proof

open Idealize.ShloMosaic Idealize.SL.Sem Cert.Kernel

/-- The kernel printed for the ideal floats is the same text: its body's table -/
theorem defs₀_same {F : FTy → Type} [FloatOps F] : Cert.Kernel.defs₀ (F := F) = Cert.KernelIdeal.defs₀ (F := F) := by
  unfold Cert.Kernel.defs₀ Cert.KernelIdeal.defs₀
  congr 1
  funext l x
  match l, x with
  | ⟨0, _⟩, (t, s) => rfl
  | ⟨_ + 1, h⟩, _ => exact absurd h (Nat.not_lt.2 (Nat.le_add_left _ _))
/-- and the table with its pipeline are the same. -/
theorem defs_same {F : FTy → Type} [FloatOps F] : Cert.Kernel.defs (F := F) = Cert.KernelIdeal.defs (F := F) := by
  unfold Cert.Kernel.defs Cert.KernelIdeal.defs
  rw [defs₀_same]
  rfl

/-- Every run of the kernel ends, its arguments unchanged and its counters at zero. -/
theorem frame_kernel_ideal : Cert.quiescent_KernelIdeal := fun m ρ _ =>
  (θ_run Cert.KernelIdeal.defs _ _).mono (fun _ h => ⟨fun c => (h.1 c).2, h.2⟩) (Cert.KernelProof.run_main (F := Ideal) m ρ)

/-- The kernel's own text is the same, so its run is the same at the machine's own floats. -/
theorem frame_kernel : Cert.quiescent_Kernel := fun m ρ _ => by
  rw [defs_same]
  exact (θ_run Cert.KernelIdeal.defs _ _).mono (fun _ h => ⟨fun c => (h.1 c).2, h.2⟩) (Cert.KernelProof.run_main (F := Bits) m ρ)

/-- The reference ends with its arguments unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- On the extended reals every device's result is its block of the reference's result, from arguments that are blocks of
    the reference's arguments; the arguments of both are unchanged. -/
theorem algebraic : Cert.algebraic_KernelIdeal_ReferenceIdeal := fun m ρ m' ρ' _ hargs =>
  ⟨Cert.KernelProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (by
        rw [Cert.KernelProof.refOut_eq]
        exact Cert.KernelProof.outAt_eq m _ _ (fun d => (hargs d).1) (fun d => (hargs d).2) c), (h.1 c).2⟩)
      (Cert.KernelProof.run_main (F := Ideal) m ρ),
    (θ_run Cert.ReferenceIdeal.defs _ _).mono (fun _ h => ⟨(h 0).1, (h 0).2⟩) (Cert.ReferenceIdeal.Value.run (F := Ideal) m' ρ')⟩

/-- All claims. -/
theorem claim : Cert.Claim := ⟨Cert.Kernel.Gen.facts, Cert.KernelIdeal.Gen.facts, Cert.ReferenceIdeal.Gen.facts,
  frame_kernel, frame_kernel_ideal, frame_reference, trivial, algebraic⟩

end Cert.Proof

end
